-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S2x512x1024 : Shape := ⟨3, ![2, 512, 1024]⟩
abbrev S3x2x512x1024 : Shape := ⟨4, ![3, 2, 512, 1024]⟩
abbrev S3x2 : Shape := ⟨2, ![3, 2]⟩
abbrev S_ : Shape := ⟨0, ![]⟩
abbrev S512x1024 : Shape := ⟨2, ![512, 1024]⟩
abbrev S1024x1024 : Shape := ⟨2, ![1024, 1024]⟩
abbrev S1x512x1024 : Shape := ⟨3, ![1, 512, 1024]⟩
abbrev S1x1 : Shape := ⟨2, ![1, 1]⟩
abbrev S1x1x512x1024 : Shape := ⟨4, ![1, 1, 512, 1024]⟩

abbrev nBuf : Space → Nat
  | .hbm => 5
  | .vmem => 13
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x2048, .fp8e4m3⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .fp8e4m3⟩
  | .local _ .vmem, ⟨1, _⟩ => ⟨S1024x2048, .fp8e4m3⟩
  | .local _ .vmem, ⟨2, _⟩ => ⟨S1024x2048, .f32⟩
  | .local _ .vmem, ⟨3, _⟩ => ⟨S4096x1024, .fp8e4m3⟩
  | .local _ .vmem, ⟨4, _⟩ => ⟨S1024x2048, .fp8e4m3⟩
  | .local _ .vmem, ⟨5, _⟩ => ⟨S2x512x1024, .bf16⟩
  | .local _ .vmem, ⟨6, _⟩ => ⟨S2x512x1024, .bf16⟩
  | .local _ .vmem, ⟨7, _⟩ => ⟨S3x2x512x1024, .bf16⟩
  | .local _ .vmem, ⟨8, _⟩ => ⟨S3x2x512x1024, .bf16⟩
  | .local _ .vmem, ⟨9, _⟩ => ⟨S2x512x1024, .fp8e4m3⟩
  | .local _ .vmem, ⟨10, _⟩ => ⟨S2x512x1024, .fp8e4m3⟩
  | .local _ .vmem, ⟨11, _⟩ => ⟨S2x512x1024, .fp8e4m3⟩
  | .local _ .vmem, ⟨12, _⟩ => ⟨S2x512x1024, .fp8e4m3⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_42 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_27 : BitVec 32 := 4#32
  let v41 : BitVec 32 := Scalar.addi v2 c4_i32_27
  let c1_i32_28 : BitVec 32 := 1#32
  let v42 : BitVec 32 := Scalar.subi v41 c1_i32_28
  let c4_i32_29 : BitVec 32 := 4#32
  let c0_i32_30 : BitVec 32 := 0#32
  let v43 : BitVec 1 := Scalar.cmpi .eq c4_i32_29 c0_i32_30
  let c1_i32_31 : BitVec 32 := 1#32
  let v44 : BitVec 32 := Scalar.select v43 c1_i32_31 c4_i32_29
  let v45 : BitVec 32 := Scalar.remsi v42 v44
  let c0_i32_33 : BitVec 32 := 0#32
  let v47 : BitVec 1 := Scalar.cmpi .slt v45 c0_i32_33
  let c0_i32_34 : BitVec 32 := 0#32
  let v48 : BitVec 1 := Scalar.cmpi .slt v44 c0_i32_34
  let v49 : BitVec 1 := Scalar.xori v47 v48
  let c0_i32_32 : BitVec 32 := 0#32
  let v46 : BitVec 1 := Scalar.cmpi .ne v45 c0_i32_32
  let v50 : BitVec 1 := Scalar.andi v49 v46
  let v51 : BitVec 32 := Scalar.addi v45 v44
  let v52 : BitVec 32 := Scalar.select v50 v51 v45
  let c1024_i32 : BitVec 32 := 1024#32
  let v64 : BitVec 32 := Scalar.muli v52 c1024_i32
  let v65 : BitVec 32 := Scalar.addi v64 c0_i32_42
  let v66 : Index := Scalar.indexCast v65
  let c0_43 : Index := 0#32
  ![v66.toNat, 0]
def k0_off2 (d0 : Dev nD) (c0_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v53 : BitVec 32 := Scalar.addi v2 c1_i32_35
  let c4_i32_36 : BitVec 32 := 4#32
  let c0_i32_37 : BitVec 32 := 0#32
  let v54 : BitVec 1 := Scalar.cmpi .eq c4_i32_36 c0_i32_37
  let c1_i32_38 : BitVec 32 := 1#32
  let v55 : BitVec 32 := Scalar.select v54 c1_i32_38 c4_i32_36
  let v56 : BitVec 32 := Scalar.remsi v53 v55
  let c0_i32_40 : BitVec 32 := 0#32
  let v58 : BitVec 1 := Scalar.cmpi .slt v56 c0_i32_40
  let c0_i32_41 : BitVec 32 := 0#32
  let v59 : BitVec 1 := Scalar.cmpi .slt v55 c0_i32_41
  let v60 : BitVec 1 := Scalar.xori v58 v59
  let c0_i32_39 : BitVec 32 := 0#32
  let v57 : BitVec 1 := Scalar.cmpi .ne v56 c0_i32_39
  let v61 : BitVec 1 := Scalar.andi v60 v57
  let v62 : BitVec 32 := Scalar.addi v56 v55
  let v63 : BitVec 32 := Scalar.select v61 v62 v56
  let c1024_i32_49 : BitVec 32 := 1024#32
  let v74 : BitVec 32 := Scalar.muli v63 c1024_i32_49
  let v75 : BitVec 32 := Scalar.addi v74 c0_i32_50
  let v76 : Index := Scalar.indexCast v75
  let c0_51 : Index := 0#32
  ![v76.toNat, 0]
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_63 : BitVec 32 := 1#32
  let v84 : BitVec 32 := Scalar.muli v25 c1_i32_63
  let v85 : BitVec 32 := Scalar.addi c0_i32_64 v84
  v85.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_75 : BitVec 32 := 1#32
  let v94 : BitVec 32 := Scalar.muli v14 c1_i32_75
  let v95 : BitVec 32 := Scalar.addi c0_i32_76 v94
  v95.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_103 : BitVec 32 := 1#32
  let v124 : BitVec 32 := Scalar.muli v25 c1_i32_103
  let v125 : BitVec 32 := Scalar.addi c0_i32_104 v124
  v125.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_115 : BitVec 32 := 1#32
  let v134 : BitVec 32 := Scalar.muli v14 c1_i32_115
  let v135 : BitVec 32 := Scalar.addi c0_i32_116 v134
  v135.toNat
def k0_off3 (d0 : Dev nD) (c0_i32_123 : BitVec 32) (c0_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_121 : BitVec 32 := 4#32
  let v144 : BitVec 32 := Scalar.addi v2 c4_i32_121
  let c2_i32_122 : BitVec 32 := 2#32
  let v145 : BitVec 32 := Scalar.subi v144 c2_i32_122
  let v146 : BitVec 32 := Scalar.subi v145 c0_i32_123
  let c4_i32_124 : BitVec 32 := 4#32
  let c0_i32_125 : BitVec 32 := 0#32
  let v147 : BitVec 1 := Scalar.cmpi .eq c4_i32_124 c0_i32_125
  let c1_i32_126 : BitVec 32 := 1#32
  let v148 : BitVec 32 := Scalar.select v147 c1_i32_126 c4_i32_124
  let v149 : BitVec 32 := Scalar.remsi v146 v148
  let c0_i32_128 : BitVec 32 := 0#32
  let v151 : BitVec 1 := Scalar.cmpi .slt v149 c0_i32_128
  let c0_i32_129 : BitVec 32 := 0#32
  let v152 : BitVec 1 := Scalar.cmpi .slt v148 c0_i32_129
  let v153 : BitVec 1 := Scalar.xori v151 v152
  let c0_i32_127 : BitVec 32 := 0#32
  let v150 : BitVec 1 := Scalar.cmpi .ne v149 c0_i32_127
  let v154 : BitVec 1 := Scalar.andi v153 v150
  let v155 : BitVec 32 := Scalar.addi v149 v148
  let v156 : BitVec 32 := Scalar.select v154 v155 v149
  let c1024_i32_138 : BitVec 32 := 1024#32
  let v169 : BitVec 32 := Scalar.muli v156 c1024_i32_138
  let v170 : BitVec 32 := Scalar.addi v169 c0_i32_139
  let v171 : Index := Scalar.indexCast v170
  let c0_140 : Index := 0#32
  ![v171.toNat, 0]
def k0_off4 (d0 : Dev nD) (c0_i32_131 : BitVec 32) (c0_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_130 : BitVec 32 := 2#32
  let v157 : BitVec 32 := Scalar.addi v2 c2_i32_130
  let v158 : BitVec 32 := Scalar.addi v157 c0_i32_131
  let c4_i32_132 : BitVec 32 := 4#32
  let c0_i32_133 : BitVec 32 := 0#32
  let v159 : BitVec 1 := Scalar.cmpi .eq c4_i32_132 c0_i32_133
  let c1_i32_134 : BitVec 32 := 1#32
  let v160 : BitVec 32 := Scalar.select v159 c1_i32_134 c4_i32_132
  let v161 : BitVec 32 := Scalar.remsi v158 v160
  let c0_i32_136 : BitVec 32 := 0#32
  let v163 : BitVec 1 := Scalar.cmpi .slt v161 c0_i32_136
  let c0_i32_137 : BitVec 32 := 0#32
  let v164 : BitVec 1 := Scalar.cmpi .slt v160 c0_i32_137
  let v165 : BitVec 1 := Scalar.xori v163 v164
  let c0_i32_135 : BitVec 32 := 0#32
  let v162 : BitVec 1 := Scalar.cmpi .ne v161 c0_i32_135
  let v166 : BitVec 1 := Scalar.andi v165 v162
  let v167 : BitVec 32 := Scalar.addi v161 v160
  let v168 : BitVec 32 := Scalar.select v166 v167 v161
  let c1024_i32_150 : BitVec 32 := 1024#32
  let v181 : BitVec 32 := Scalar.muli v168 c1024_i32_150
  let v182 : BitVec 32 := Scalar.addi v181 c0_i32_151
  let v183 : Index := Scalar.indexCast v182
  let c0_152 : Index := 0#32
  ![v183.toNat, 0]
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_198 : BitVec 32 := 1#32
  let v215 : BitVec 32 := Scalar.muli v25 c1_i32_198
  let v216 : BitVec 32 := Scalar.addi c0_i32_199 v215
  v216.toNat
def k0_dev8 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_240 : BitVec 32 := 1#32
  let v247 : BitVec 32 := Scalar.muli v14 c1_i32_240
  let v248 : BitVec 32 := Scalar.addi c0_i32_241 v247
  v248.toNat
def k0_dev9 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_282 : BitVec 32 := 1#32
  let v279 : BitVec 32 := Scalar.muli v25 c1_i32_282
  let v280 : BitVec 32 := Scalar.addi c0_i32_283 v279
  v280.toNat
def k0_dev10 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_324 : BitVec 32 := 1#32
  let v311 : BitVec 32 := Scalar.muli v14 c1_i32_324
  let v312 : BitVec 32 := Scalar.addi c0_i32_325 v311
  v312.toNat
def k0_dev11 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_410 : BitVec 32 := 1#32
  let v392 : BitVec 32 := Scalar.muli v25 c1_i32_410
  let v393 : BitVec 32 := Scalar.addi c0_i32_411 v392
  v393.toNat
def k0_dev12 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_455 : BitVec 32 := 1#32
  let v424 : BitVec 32 := Scalar.muli v14 c1_i32_455
  let v425 : BitVec 32 := Scalar.addi c0_i32_456 v424
  v425.toNat
def k0_dev13 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_500 : BitVec 32 := 1#32
  let v456 : BitVec 32 := Scalar.muli v25 c1_i32_500
  let v457 : BitVec 32 := Scalar.addi c0_i32_501 v456
  v457.toNat
def k0_dev14 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_545 : BitVec 32 := 1#32
  let v488 : BitVec 32 := Scalar.muli v14 c1_i32_545
  let v489 : BitVec 32 := Scalar.addi c0_i32_546 v488
  v489.toNat
def k0_off5 (d0 : Dev nD) (c0_i32_552 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_551 : BitVec 32 := 1024#32
  let v498 : BitVec 32 := Scalar.muli v2 c1024_i32_551
  let v499 : BitVec 32 := Scalar.addi v498 c0_i32_552
  let v500 : Index := Scalar.indexCast v499
  let c0_553 : Index := 0#32
  ![v500.toNat, 0]
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Slots.lean ====
/-
# Pieces of buffers

The kernel works on pieces of its buffers: it loads and stores a piece through the whole buffer at a
rectangle, and copies the same piece through a slice of the buffer squeezed to two dimensions. Everything
is stated here over the squeezed slice (a slot), owned at the array it reads, so that every later
statement speaks of plain arrays of 512 rows and 1024 columns.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pipeline.Value
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's own rounds, its duties named by `Bool`. -/
abbrev UB : Type := URounds (GSem nD τ sig) Bool
/-- The pipeline library's rounds beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Slots -/

/-- Slot 0 of a two-slot buffer. -/
abbrev sa {e : EltTy} (M : Memref sig .tc .vmem S2x512x1024 e) : Memref sig .tc .vmem S512x1024 e :=
  (M.slice (Rect.unit (s := S2x512x1024) ![0, 0, 0] S1x512x1024.size inb_S2x512x1024_S1x512x1024_0_0_0) (fun _ => rfl)).squeeze S512x1024 squeezes_S1x512x1024_S512x1024
/-- Slot 1 of a two-slot buffer. -/
abbrev sb {e : EltTy} (M : Memref sig .tc .vmem S2x512x1024 e) : Memref sig .tc .vmem S512x1024 e :=
  (M.slice (Rect.unit (s := S2x512x1024) ![1, 0, 0] S1x512x1024.size inb_S2x512x1024_S1x512x1024_1_0_0) (fun _ => rfl)).squeeze S512x1024 squeezes_S1x512x1024_S512x1024

/-- The slot of hop `h`, sub-block `s` of a six-slot receive buffer. -/
abbrev sq {e : EltTy} (M : Memref sig .tc .vmem S3x2x512x1024 e) (off : Fin 4 → Nat) (h : ∀ a, off a + S1x1x512x1024.size a ≤ S3x2x512x1024.size a) :
    Memref sig .tc .vmem S512x1024 e :=
  (M.slice (Rect.unit (s := S3x2x512x1024) off S1x1x512x1024.size h) (fun _ => rfl)).squeeze S512x1024 squeezes_S1x1x512x1024_S512x1024

abbrev q10 {e : EltTy} (M : Memref sig .tc .vmem S3x2x512x1024 e) := sq M ![1, 0, 0, 0] inb_S3x2x512x1024_S1x1x512x1024_1_0_0_0
abbrev q11 {e : EltTy} (M : Memref sig .tc .vmem S3x2x512x1024 e) := sq M ![1, 1, 0, 0] inb_S3x2x512x1024_S1x1x512x1024_1_1_0_0
abbrev q20 {e : EltTy} (M : Memref sig .tc .vmem S3x2x512x1024 e) := sq M ![2, 0, 0, 0] inb_S3x2x512x1024_S1x1x512x1024_2_0_0_0
abbrev q21 {e : EltTy} (M : Memref sig .tc .vmem S3x2x512x1024 e) := sq M ![2, 1, 0, 0] inb_S3x2x512x1024_S1x1x512x1024_2_1_0_0

/-- The program logic's triples, at this kernel's definitions. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A memref owned whole by device `c` at the array it reads. -/
abbrev Own (c : Dev nD) {sp : Space} {s : Shape} {e : EltTy} (M : Memref sig .tc sp s e) (X : s.Idx → Elt F e) : sProp 𝕄 :=
  owns (Ix := Unit) (Name := ℕ) (U := UU) (Lvl := ℕ) (Val := Elt F) (c : Thread nD τ) M fullShare X
/-- The same at some array. -/
abbrev OwnE (c : Dev nD) {sp : Space} {s : Shape} {e : EltTy} (M : Memref sig .tc sp s e) : sProp 𝕄 :=
  iprop(∃ X, Own (F := F) c M X)

section Access

theorem own_elim (c : Dev nD) {sp : Space} {s : Shape} {e : EltTy} (M : Memref sig .tc sp s e) (X : s.Idx → Elt F e) :
    Own c M X ⊢ iprop(∃ f, ⌜M.view.read (Elt F) f = X⌝ ∗ M.view.loc (c : Thread nD τ) ↦[M.view.set]{fullShare} f) := .rfl

theorem own_of (c : Dev nD) {sp : Space} {s : Shape} {e : EltTy} (M : Memref sig .tc sp s e) (X : s.Idx → Elt F e)
    (f : M.view.ty.Contents (Elt F)) (hf : M.view.read (Elt F) f = X) :
    (M.view.loc (c : Thread nD τ) ↦[M.view.set]{fullShare} f) ⊢ Own c M X := by
  subst hf; exact owns_intro (c : Thread nD τ) M fullShare f

variable {cs : CoreSpace} {s : Shape} {e : EltTy}

/-- A load through a memref owned at `X`. -/
theorem load_own (c : Dev nD) {M : Memref sig .tc cs s e} {r : LoadRect s} {hl : M.view.LoadsAt r} {α : Type}
    {k : (r.shape.Idx → Elt F e) → Prog (TpuEff nD τ sig (Elt F) Λ₀ .tc) α} {Q : α → sProp 𝕄} (X : s.Idx → Elt F e) :
    Own c M X ⊢ iprop((Own c M X -∗ WP c (k fun x => X (r.idx x)) Q) -∗ WP c (.op (.load M r hl) k) Q) := by
  iintro H Hk
  ihave H := (own_elim c _ X) $$ H
  icases H with ⟨%f, %hf, H⟩
  iapply (wp_load 𝒱₀ (c : Thread nD τ) none Set.univ (m := M) (View.setOn_subset_set _ _)) $$ H
  iintro H
  rw [show M.view.readAt (Elt F) r f = fun x => X (r.idx x) from by rw [← hf]; rfl]
  iapply Hk
  iapply (own_of c _ X f hf) $$ H

variable {r : Rect s} {s' : Shape} (hr : ∀ a, r.stride a = 1) (hq : r.shape.Squeezes s')

theorem slot_set (M : Memref sig .tc cs s e) : ((M.slice r hr).squeeze s' hq).view.set = (M.access r).set :=
  View.set_reshape _ _

/-- A load of a slot through the buffer it is a slot of. -/
theorem load_slot (c : Dev nD) {M : Memref sig .tc cs s e} {hl : M.view.LoadsAt r.toLoadRect} {α : Type}
    {k : (r.shape.Idx → Elt F e) → Prog (TpuEff nD τ sig (Elt F) Λ₀ .tc) α} {Q : α → sProp 𝕄} (X : s'.Idx → Elt F e)
    (h' : s'.ShapeCasts r.shape) (hc : r.shape.ShapeCasts s') :
    Own c ((M.slice r hr).squeeze s' hq) X ⊢ iprop((Own c ((M.slice r hr).squeeze s' hq) X -∗ WP c (k (shapeCast r.shape X h')) Q)
      -∗ WP c (.op (.load M r.toLoadRect hl) k) Q) := by
  iintro H Hk
  ihave H := (own_elim c _ X) $$ H
  icases H with ⟨%f, %hf, H⟩
  iapply (wp_load_rect 𝒱₀ (c : Thread nD τ) none Set.univ (m := M) (r := r) (S := ((M.slice r hr).squeeze s' hq).view.set) (by rw [slot_set])) $$ H
  iintro H
  rw [show (M.access r).read (Elt F) f = shapeCast r.shape X h' from by
    rw [← hf, Memref.read_squeeze_slice M r hr hq hc, shapeCast_shapeCast]; rfl]
  iapply Hk
  iapply (own_of c _ X f hf) $$ H

/-- A store of a slot through the buffer it is a slot of. -/
theorem store_slot (c : Dev nD) {M : Memref sig .tc cs s e} {w : r.shape.Idx → Elt F e} {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} (X : s'.Idx → Elt F e)
    (h' : r.shape.ShapeCasts s') :
    Own c ((M.slice r hr).squeeze s' hq) X ⊢ iprop((Own c ((M.slice r hr).squeeze s' hq) (shapeCast s' w h') -∗ WP c (k ⟨⟩) Q)
      -∗ WP c (.op (.store M r w Finset.univ hx hm) k) Q) := by
  iintro H Hk
  ihave H := (own_elim c _ X) $$ H
  icases H with ⟨%f, %hf, H⟩
  iapply (wp_store 𝒱₀ (c : Thread nD τ) none Set.univ (m := M) (r := r) (Mk := Finset.univ) (S := ((M.slice r hr).squeeze s' hq).view.set) (by rw [slot_set]; exact View.setOn_subset_set _ _)) $$ H
  iintro H
  iapply Hk
  iapply (own_of c ((M.slice r hr).squeeze s' hq) (shapeCast s' w h') ((M.access r).write (Elt F) f w Finset.univ) (by
    rw [Memref.read_squeeze_slice M r hr hq h']
    exact congrArg (fun x => shapeCast s' x h') (View.read_write_univ (v := M.access r) f w))) $$ H

/-- A slot is the slice it squeezes. -/
theorem slot_of_slice (c : Dev nD) (M : Memref sig .tc cs s e) : OwnE (F := F) c (M.slice r hr) ⊢ OwnE c ((M.slice r hr).squeeze s' hq) := by
  iintro ⟨%X, H⟩
  ihave H := (own_elim c (M.slice r hr) X) $$ H
  icases H with ⟨%f, -, H⟩
  iexists ((M.slice r hr).squeeze s' hq).view.read (Elt F) f
  iapply (own_of c ((M.slice r hr).squeeze s' hq) _ f rfl)
  rw [show ((M.slice r hr).squeeze s' hq).view.set = (M.slice r hr).view.set from View.set_reshape _ _]
  iexact H

theorem slice_of_slot (c : Dev nD) (M : Memref sig .tc cs s e) : OwnE (F := F) c ((M.slice r hr).squeeze s' hq) ⊢ OwnE c (M.slice r hr) := by
  iintro ⟨%X, H⟩
  ihave H := (own_elim c ((M.slice r hr).squeeze s' hq) X) $$ H
  icases H with ⟨%f, -, H⟩
  iexists (M.slice r hr).view.read (Elt F) f
  iapply (own_of c (M.slice r hr) _ f rfl)
  rw [show ((M.slice r hr).squeeze s' hq).view.set = (M.slice r hr).view.set from View.set_reshape _ _]
  iexact H

end Access

section Split

variable {cs : CoreSpace} {s : Shape} {e : EltTy} {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd hcov

/-- A buffer is its pieces; -/
theorem split_rects (c : Dev nD) (M : Memref sig .tc cs s e) :
    OwnE (F := F) c M ⊢ bigSep Finset.univ fun t => OwnE c (M.slice (r t) (hr t)) := by
  iintro ⟨%X, H⟩
  ihave H := (owns_rects (c : Thread nD τ) M fullShare r hr hd hcov X) $$ H
  iapply (show (bigSep Finset.univ fun t => Own (F := F) c (M.slice (r t) (hr t)) (fun j => X ((r t).emb j)))
      ⊢ bigSep Finset.univ fun t => OwnE c (M.slice (r t) (hr t)) from BI.bigSep_mono (fun t _ => show (Own (F := F) c (M.slice (r t) (hr t)) (fun j => X ((r t).emb j)) : sProp 𝕄) ⊢ OwnE c (M.slice (r t) (hr t)) from by
        iintro H; iexists _; iexact H))
  iexact H

/-- and its pieces are it. -/
theorem join_rects (c : Dev nD) (M : Memref sig .tc cs s e) :
    (bigSep Finset.univ fun t => OwnE (F := F) c (M.slice (r t) (hr t))) ⊢ OwnE c M := by
  classical
  have : ∀ t, Nonempty ((r t).shape.Idx → Elt F e) := fun t => ⟨fun _ => Classical.choice (Elt.nonempty F e)⟩
  refine (Idealize.SL.BI.bigSep_exists_pi Finset.univ (fun t (X : (r t).shape.Idx → Elt F e) => Own (F := F) c (M.slice (r t) (hr t)) X)).trans ?_
  iintro ⟨%Xs, H⟩
  let X : s.Idx → Elt F e := fun j => if h : ∃ (t : T) (i : (r t).shape.Idx), (r t).emb i = j then Xs h.choose h.choose_spec.choose
    else Classical.choice (Elt.nonempty F e)
  have hX : ∀ t i, X ((r t).emb i) = Xs t i := by
    intro t i
    have h : ∃ (t' : T) (i' : (r t').shape.Idx), (r t').emb i' = (r t).emb i := ⟨t, i, rfl⟩
    have h1 : X ((r t).emb i) = Xs h.choose h.choose_spec.choose := dif_pos h
    have h2 := h.choose_spec.choose_spec
    rw [h1]
    generalize h.choose_spec.choose = i' at h2 ⊢
    generalize h.choose = t' at i' h2 ⊢
    by_cases htt : t' = t
    · subst htt; rw [(r t').emb.injective h2]
    · exfalso
      have d := Finset.disjoint_left.mp (hd t' t htt)
      have m1 : (r t').emb i' ∈ (r t').set := by rw [← Rect.map_emb_univ]; exact Finset.mem_map_of_mem _ (Finset.mem_univ _)
      have m2 : (r t).emb i ∈ (r t).set := by rw [← Rect.map_emb_univ]; exact Finset.mem_map_of_mem _ (Finset.mem_univ _)
      exact d m1 (h2 ▸ m2)
  iexists X
  iapply (owns_of_rects (c : Thread nD τ) M fullShare r hr hd hcov X)
  rw [show (fun t => Own (F := F) c (M.slice (r t) (hr t)) (fun j => X ((r t).emb j)))
    = (fun t => Own c (M.slice (r t) (hr t)) (Xs t)) from funext fun t => congrArg _ (funext fun i => hX t i)]
  iexact H

end Split

/-! ## The two kinds of slotted buffers, and the result's four blocks -/

abbrev r2 (t : Fin 2) : Rect S2x512x1024 := Rect.unit (s := S2x512x1024) ![t.val, 0, 0] S1x512x1024.size (by revert t; decide)

theorem r2_disj : ∀ t t', t ≠ t' → Disjoint (r2 t).set (r2 t').set := fun t t' h =>
  Rect.unit_disjoint (0 : Fin 3) (by
    have : t.val ≠ t'.val := fun e => h (Fin.ext e)
    show t.val + 1 ≤ t'.val ∨ t'.val + 1 ≤ t.val
    omega)

theorem r2_cover : (Finset.univ : Finset (Fin 2)).biUnion (fun t => (r2 t).set) = Finset.univ := by
  ext i; simp only [Finset.mem_biUnion, Finset.mem_univ, true_and, iff_true]
  have h0 : (i 0).val < 2 := (i 0).isLt
  have h1 : (i 1).val < 512 := (i 1).isLt
  have h2 : (i 2).val < 1024 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 512; omega
  · show 0 ≤ (i 2).val ∧ (i 2).val < 0 + 1024; omega

theorem split2 (c : Dev nD) {e : EltTy} (M : Memref sig .tc .vmem S2x512x1024 e) :
    OwnE (F := F) c M ⊢ iprop(OwnE c (sa M) ∗ OwnE c (sb M)) := by
  refine (split_rects r2 (fun _ _ => rfl) r2_disj r2_cover c M).trans ?_
  rw [BI.bigSep_fin_two]
  exact BI.sep_mono (slot_of_slice (fun _ => rfl) squeezes_S1x512x1024_S512x1024 c M) (slot_of_slice (fun _ => rfl) squeezes_S1x512x1024_S512x1024 c M)

theorem join2 (c : Dev nD) {e : EltTy} (M : Memref sig .tc .vmem S2x512x1024 e) :
    iprop(OwnE (F := F) c (sa M) ∗ OwnE c (sb M)) ⊢ OwnE c M := by
  refine BIBase.Entails.trans ?_ (join_rects r2 (fun _ _ => rfl) r2_disj r2_cover c M)
  rw [BI.bigSep_fin_two]
  exact BI.sep_mono (slice_of_slot (fun _ => rfl) squeezes_S1x512x1024_S512x1024 c M) (slice_of_slot (fun _ => rfl) squeezes_S1x512x1024_S512x1024 c M)

abbrev r6 (t : Fin 6) : Rect S3x2x512x1024 := Rect.unit (s := S3x2x512x1024) ![t.val / 2, t.val % 2, 0, 0] S1x1x512x1024.size (by revert t; decide)

theorem r6_disj : ∀ t t', t ≠ t' → Disjoint (r6 t).set (r6 t').set := fun t t' h => by
  have : t.val ≠ t'.val := fun e => h (Fin.ext e)
  by_cases e : t.val / 2 = t'.val / 2
  · exact Rect.unit_disjoint (1 : Fin 4) (by
      show t.val % 2 + 1 ≤ t'.val % 2 ∨ t'.val % 2 + 1 ≤ t.val % 2
      omega)
  · exact Rect.unit_disjoint (0 : Fin 4) (by
      show t.val / 2 + 1 ≤ t'.val / 2 ∨ t'.val / 2 + 1 ≤ t.val / 2
      omega)

theorem r6_cover : (Finset.univ : Finset (Fin 6)).biUnion (fun t => (r6 t).set) = Finset.univ := by
  ext i; simp only [Finset.mem_biUnion, Finset.mem_univ, true_and, iff_true]
  have h0 : (i 0).val < 3 := (i 0).isLt
  have h1 : (i 1).val < 2 := (i 1).isLt
  have h2 : (i 2).val < 512 := (i 2).isLt
  have h3 : (i 3).val < 1024 := (i 3).isLt
  refine ⟨⟨2 * (i 0).val + (i 1).val, by omega⟩, Rect.mem_set_unit.mpr fun a => ?_⟩
  fin_cases a
  · show (2 * (i 0).val + (i 1).val) / 2 ≤ (i 0).val ∧ (i 0).val < (2 * (i 0).val + (i 1).val) / 2 + 1; omega
  · show (2 * (i 0).val + (i 1).val) % 2 ≤ (i 1).val ∧ (i 1).val < (2 * (i 0).val + (i 1).val) % 2 + 1; omega
  · show 0 ≤ (i 2).val ∧ (i 2).val < 0 + 512; omega
  · show 0 ≤ (i 3).val ∧ (i 3).val < 0 + 1024; omega

/-- The two slots of a six-slot buffer that hop 0 would use: they are not used at all. -/
abbrev q00 {e : EltTy} (M : Memref sig .tc .vmem S3x2x512x1024 e) := sq M ![0, 0, 0, 0] (by decide)
abbrev q01 {e : EltTy} (M : Memref sig .tc .vmem S3x2x512x1024 e) := sq M ![0, 1, 0, 0] (by decide)

theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem split6 (c : Dev nD) {e : EltTy} (M : Memref sig .tc .vmem S3x2x512x1024 e) :
    OwnE (F := F) c M ⊢ iprop(OwnE c (q00 M) ∗ OwnE c (q01 M) ∗ OwnE c (q10 M) ∗ OwnE c (q11 M) ∗ OwnE c (q20 M) ∗ OwnE c (q21 M)) := by
  refine (split_rects r6 (fun _ _ => rfl) r6_disj r6_cover c M).trans ?_
  rw [bigSep6]
  exact BI.sep_mono (slot_of_slice (fun _ => rfl) squeezes_S1x1x512x1024_S512x1024 c M) (BI.sep_mono (slot_of_slice (fun _ => rfl) squeezes_S1x1x512x1024_S512x1024 c M) (BI.sep_mono (slot_of_slice (fun _ => rfl) squeezes_S1x1x512x1024_S512x1024 c M)
    (BI.sep_mono (slot_of_slice (fun _ => rfl) squeezes_S1x1x512x1024_S512x1024 c M) (BI.sep_mono (slot_of_slice (fun _ => rfl) squeezes_S1x1x512x1024_S512x1024 c M) (slot_of_slice (fun _ => rfl) squeezes_S1x1x512x1024_S512x1024 c M)))))

theorem join6 (c : Dev nD) {e : EltTy} (M : Memref sig .tc .vmem S3x2x512x1024 e) :
    iprop(OwnE (F := F) c (q00 M) ∗ OwnE c (q01 M) ∗ OwnE c (q10 M) ∗ OwnE c (q11 M) ∗ OwnE c (q20 M) ∗ OwnE c (q21 M)) ⊢ OwnE c M := by
  refine BIBase.Entails.trans ?_ (join_rects r6 (fun _ _ => rfl) r6_disj r6_cover c M)
  rw [bigSep6]
  exact BI.sep_mono (slice_of_slot (fun _ => rfl) squeezes_S1x1x512x1024_S512x1024 c M) (BI.sep_mono (slice_of_slot (fun _ => rfl) squeezes_S1x1x512x1024_S512x1024 c M) (BI.sep_mono (slice_of_slot (fun _ => rfl) squeezes_S1x1x512x1024_S512x1024 c M)
    (BI.sep_mono (slice_of_slot (fun _ => rfl) squeezes_S1x1x512x1024_S512x1024 c M) (BI.sep_mono (slice_of_slot (fun _ => rfl) squeezes_S1x1x512x1024_S512x1024 c M) (slice_of_slot (fun _ => rfl) squeezes_S1x1x512x1024_S512x1024 c M)))))

/-- The result's four blocks: rows by halves, then columns by halves. -/
abbrev r4 (t : Fin 4) : Rect S1024x2048 := Rect.unit (s := S1024x2048) ![512 * (t.val / 2), 1024 * (t.val % 2)] S512x1024.size (by revert t; decide)

theorem r4_disj : ∀ t t', t ≠ t' → Disjoint (r4 t).set (r4 t').set := fun t t' h => by
  have : t.val ≠ t'.val := fun e => h (Fin.ext e)
  by_cases e : t.val / 2 = t'.val / 2
  · exact Rect.unit_disjoint (1 : Fin 2) (by
      show 1024 * (t.val % 2) + 1024 ≤ 1024 * (t'.val % 2) ∨ 1024 * (t'.val % 2) + 1024 ≤ 1024 * (t.val % 2)
      omega)
  · exact Rect.unit_disjoint (0 : Fin 2) (by
      show 512 * (t.val / 2) + 512 ≤ 512 * (t'.val / 2) ∨ 512 * (t'.val / 2) + 512 ≤ 512 * (t.val / 2)
      omega)

theorem r4_cover : (Finset.univ : Finset (Fin 4)).biUnion (fun t => (r4 t).set) = Finset.univ := by
  ext i; simp only [Finset.mem_biUnion, Finset.mem_univ, true_and, iff_true]
  have h0 : (i 0).val < 1024 := (i 0).isLt
  have h1 : (i 1).val < 2048 := (i 1).isLt
  refine ⟨⟨2 * ((i 0).val / 512) + (i 1).val / 1024, by omega⟩, Rect.mem_set_unit.mpr fun a => ?_⟩
  fin_cases a
  · show 512 * ((2 * ((i 0).val / 512) + (i 1).val / 1024) / 2) ≤ (i 0).val ∧ (i 0).val < 512 * ((2 * ((i 0).val / 512) + (i 1).val / 1024) / 2) + 512; omega
  · show 1024 * ((2 * ((i 0).val / 512) + (i 1).val / 1024) % 2) ≤ (i 1).val ∧ (i 1).val < 1024 * ((2 * ((i 0).val / 512) + (i 1).val / 1024) % 2) + 1024; omega

/-- A block of the result, as a memref of its own. -/
abbrev ob (M : Memref sig .tc .vmem S1024x2048 .f32) (t : Fin 4) : Memref sig .tc .vmem S512x1024 .f32 := M.slice (r4 t) (fun _ => rfl)

theorem split4 (c : Dev nD) (M : Memref sig .tc .vmem S1024x2048 .f32) :
    OwnE (F := F) c M ⊢ iprop(OwnE c (ob M 0) ∗ OwnE c (ob M 1) ∗ OwnE c (ob M 2) ∗ OwnE c (ob M 3)) := by
  refine (split_rects r4 (fun _ _ => rfl) r4_disj r4_cover c M).trans ?_
  rw [bigSep4]; exact .rfl

/-- The four blocks, each at its part of one array, are the array. -/
theorem join4 (c : Dev nD) (M : Memref sig .tc .vmem S1024x2048 .f32) (X : S1024x2048.Idx → Elt F .f32) :
    iprop(Own c (ob M 0) (fun j => X ((r4 0).emb j)) ∗ Own c (ob M 1) (fun j => X ((r4 1).emb j))
      ∗ Own c (ob M 2) (fun j => X ((r4 2).emb j)) ∗ Own c (ob M 3) (fun j => X ((r4 3).emb j))) ⊢ Own c M X := by
  refine BIBase.Entails.trans ?_ (owns_of_rects (c : Thread nD τ) M fullShare r4 (fun _ _ => rfl) r4_disj r4_cover X)
  rw [bigSep4]; exact .rfl

/-- A store of a whole slice through the buffer. -/
theorem store_slice {cs : CoreSpace} {s : Shape} {e : EltTy} {r : Rect s} (hr : ∀ a, r.stride a = 1)
    (c : Dev nD) {M : Memref sig .tc cs s e} {w : r.shape.Idx → Elt F e} {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} :
    OwnE c (M.slice r hr) ⊢ iprop((Own c (M.slice r hr) w -∗ WP c (k ⟨⟩) Q)
      -∗ WP c (.op (.store M r w Finset.univ hx hm) k) Q) := by
  iintro ⟨%X, H⟩ Hk
  ihave H := (own_elim c _ X) $$ H
  icases H with ⟨%f, %hf, H⟩
  iapply (wp_store 𝒱₀ (c : Thread nD τ) none Set.univ (m := M) (r := r) (Mk := Finset.univ) (S := (M.access r).set) (View.setOn_subset_set _ _)) $$ H
  iintro H
  iapply Hk
  iapply (own_of c (M.slice r hr) w ((M.access r).write (Elt F) f w Finset.univ) (View.read_write_univ (v := M.access r) f w)) $$ H

/-- A load of a whole slice through the buffer, its value unused. -/
theorem load_slice {cs : CoreSpace} {s : Shape} {e : EltTy} {r : Rect s} (hr : ∀ a, r.stride a = 1)
    (c : Dev nD) {M : Memref sig .tc cs s e} {hl : M.view.LoadsAt r.toLoadRect} {α : Type}
    {k : (r.shape.Idx → Elt F e) → Prog (TpuEff nD τ sig (Elt F) Λ₀ .tc) α} {Q : α → sProp 𝕄} :
    OwnE c (M.slice r hr) ⊢ iprop((∀ v, OwnE c (M.slice r hr) -∗ WP c (k v) Q)
      -∗ WP c (.op (.load M r.toLoadRect hl) k) Q) := by
  iintro ⟨%X, H⟩ Hk
  ihave H := (own_elim c _ X) $$ H
  icases H with ⟨%f, %hf, H⟩
  iapply (wp_load_rect 𝒱₀ (c : Thread nD τ) none Set.univ (m := M) (r := r) (S := (M.access r).set) (le_refl _)) $$ H
  iintro H
  iapply Hk $$ %_
  iexists X
  iapply (own_of c (M.slice r hr) X f hf) $$ H

end Cert.Ring
-- ==== Proof.Proto.lean ====
/-
# The protocol

Four devices in a ring, `nxt` to the right and `prv` to the left. Every device holds a 4096 × 1024 slab of the
left operand and a 1024 × 2048 slab of the right one; the result's block of 1024 rows of device `c` is the sum
over the devices of slab products, scaled and passed through the final function. Partial sums of the left 1024
columns travel to the right (chain R), those of the right 1024 columns to the left (chain L); each chain makes
three hops (0, 1, 2) of two sub-blocks (0, 1) of 512 rows.

Semaphores, all of them used for one round:

* The barrier cell of `c`, two duties of one unit. Duty `true`: the first signal of `nxt c`, which hands `c` the six
  receive slots of chain R at `nxt c` (two in the narrow buffer, four in the wide one), at any contents. Duty
  `false`: the second signal of `prv c`, which hands `c` the six receive slots of chain L at `prv c`. `c` waits
  for both units before its first copy. Nobody writes a receive slot before this hand-over.
* The receive cell of a chain, a hop and a sub-block of `c`, one duty of the slot's size: the landing of the copy
  issued by `prv c` (chain R) or `nxt c` (chain L). It hands `c` its own receive slot back, holding what the
  neighbour sent: at hop 0 the neighbour's product narrowed, at hops 1 and 2 the neighbour's product plus what the
  neighbour itself received a hop before, narrowed.
* The send cell of a chain, a hop and a sub-block of `c`, one duty of the slot's size: the end of `c`'s own
  copy. It hands `c` its own send slot back. `c` waits on it before the slot is stored to again.

A device waits on the receive cell, then on the send cell, of a hop before it issues the next hop. Levels: send
cells 0, barrier cells 1, the receive cells of hop `h` at `h + 2`. At each wait everything a device still owes
lies above the cell waited on.
-/
module

public import proofs.«01_k».proof.Proof.Slots

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = nxt c := by decide +kernel
theorem dev14_eq : ∀ c : Dev nD, (⟨k0_dev14 c, k0_dev14_lt c⟩ : Dev nD) = prv c := by decide +kernel

/-! ## The buffers and cells -/

abbrev b0 : Memref sig .tc .vmem S4096x1024 .fp8e4m3 := Memref.whole cc0_stg0_0
abbrev b1 : Memref sig .tc .vmem S1024x2048 .fp8e4m3 := Memref.whole cc0_stg1_0
abbrev b2 : Memref sig .tc .smem S1 .f32 := Memref.whole cc0_stg2_0
abbrev b3 : Memref sig .tc .smem S1 .f32 := Memref.whole cc0_stg3_0
abbrev b4 : Memref sig .tc .vmem S1024x2048 .f32 := Memref.whole cc0_stg4_0
abbrev b5 : Memref sig .tc .vmem S4096x1024 .fp8e4m3 := Memref.whole cc0_scratch0
abbrev b6 : Memref sig .tc .vmem S1024x2048 .fp8e4m3 := Memref.whole cc0_scratch1
abbrev b7 : Memref sig .tc .vmem S2x512x1024 .bf16 := Memref.whole cc0_scratch2
abbrev b8 : Memref sig .tc .vmem S2x512x1024 .bf16 := Memref.whole cc0_scratch3
abbrev b9 : Memref sig .tc .vmem S3x2x512x1024 .bf16 := Memref.whole cc0_scratch4
abbrev b10 : Memref sig .tc .vmem S3x2x512x1024 .bf16 := Memref.whole cc0_scratch5
abbrev b11 : Memref sig .tc .vmem S2x512x1024 .fp8e4m3 := Memref.whole cc0_scratch6
abbrev b12 : Memref sig .tc .vmem S2x512x1024 .fp8e4m3 := Memref.whole cc0_scratch7
abbrev b13 : Memref sig .tc .vmem S2x512x1024 .fp8e4m3 := Memref.whole cc0_scratch8
abbrev b14 : Memref sig .tc .vmem S2x512x1024 .fp8e4m3 := Memref.whole cc0_scratch9

abbrev barS : Sem sig := (SemArray.scalar (sig.barrier 0 rfl) : Sems sig S_).sem
abbrev barCell (c : Dev nD) : GSem nD τ sig := ((c : Thread nD τ), .reg barS)
/-- A DMA cell of device `c`: numbers 5–10 are chain R's send cells, 11–16 its receive cells, 17–22 and 23–28 chain
    L's; within each six, two to a hop. -/
abbrev dcell (c : Dev nD) (q : DmaSem sig) : GSem nD τ sig := ((c : Thread nD τ), .dma q)

/-- The kernel's own cells, as the launch indexes them. -/
abbrev osem (j : Fin 24) : SemLoc sig := .dma ⟨j.val + 5, by have := j.isLt; show _ < 29; omega⟩
/-- All the exchange's cells: the barrier, then the kernel's own. -/
def csem (j : Fin 25) : SemLoc sig := if h : j.val = 0 then .reg barS else .dma ⟨j.val + 4, by have := j.isLt; show _ < 29; omega⟩
abbrev kcell (ck : Dev nD × Fin 25) : GSem nD τ sig := ((ck.1 : Thread nD τ), csem ck.2)

theorem csem_zero : csem 0 = .reg barS := rfl
theorem csem_succ (j : Fin 24) : csem j.succ = osem j := by
  unfold csem; rw [dif_neg (by show ¬ j.val + 1 = 0; omega)]
  exact congrArg SemLoc.dma (Fin.ext (by show j.val + 1 + 4 = j.val + 5; omega))

/-- The place of a DMA cell in the list of all. -/
def cidx (q : DmaSem sig) : Fin 25 := ⟨q.val - 4, by have : q.val < 29 := q.isLt; omega⟩
theorem csem_cidx (q : DmaSem sig) (h : 5 ≤ q.val) : csem (cidx q) = .dma q := by
  unfold csem cidx
  rw [dif_neg (by show ¬ q.val - 4 = 0; omega)]
  exact congrArg SemLoc.dma (Fin.ext (by show q.val - 4 + 4 = q.val; omega))

/-! ## Contents -/

variable (F) in
/-- What the devices hold at launch. -/
structure Inp where
  x : Dev nD → S4096x1024.Idx → Elt F .fp8e4m3
  w : Dev nD → S1024x2048.Idx → Elt F .fp8e4m3
  sx : Dev nD → S1.Idx → Elt F .f32
  sw : Dev nD → S1.Idx → Elt F .f32

/-- 512 rows of an operand slab, from row offset `off`. -/
abbrev rows (X : S4096x1024.Idx → Elt F .fp8e4m3) (off : Fin 2 → Nat) (h : ∀ a, off a + S512x1024.size a ≤ S4096x1024.size a) :
    Vec F S512x1024 .fp8e4m3 := fun i => X ((Rect.unit (s := S4096x1024) off S512x1024.size h).toLoadRect.idx i)
/-- The left and the right half of the columns of an operand slab. -/
abbrev colsL (W : S1024x2048.Idx → Elt F .fp8e4m3) : Vec F S1024x1024 .fp8e4m3 :=
  fun i => W ((Rect.unit (s := S1024x2048) ![0, 0] S1024x1024.size inb_S1024x2048_S1024x1024_0_0).toLoadRect.idx i)
abbrev colsR (W : S1024x2048.Idx → Elt F .fp8e4m3) : Vec F S1024x1024 .fp8e4m3 :=
  fun i => W ((Rect.unit (s := S1024x2048) ![0, 1024] S1024x1024.size inb_S1024x2048_S1024x1024_0_1024).toLoadRect.idx i)

/-- The product of 512 rows and 1024 columns. -/
def mm (a : Vec F S512x1024 .fp8e4m3) (b : Vec F S1024x1024 .fp8e4m3) : FVec F S512x1024 .f32 :=
  matmul dot_S512x1024_S1024x1024_S512x1024_1_0_0_1_n_n none a b (constant S512x1024 .f32 0x00000000#32)
/-- A product narrowed for the first hop. -/
def nar (v : FVec F S512x1024 .f32) : FVec F S512x1024 .fp8e4m3 := truncf .fp8e4m3 v bitsLt_fp8e4m3_f32
/-- A product plus what the first hop brought, narrowed for the second. -/
def add8 (v : FVec F S512x1024 .f32) (r : FVec F S512x1024 .fp8e4m3) : FVec F S512x1024 .bf16 :=
  truncf .bf16 (addf v (extf .f32 r bitsLt_fp8e4m3_f32)) bitsLt_bf16_f32
/-- A product plus what the second hop brought, narrowed for the third. -/
def add16 (v : FVec F S512x1024 .f32) (r : FVec F S512x1024 .bf16) : FVec F S512x1024 .bf16 :=
  truncf .bf16 (addf v (extf .f32 r bitsLt_bf16_f32)) bitsLt_bf16_f32
/-- The last product plus what the third hop brought, scaled, and the final function of it. -/
def fin (v : FVec F S512x1024 .f32) (sc : F .f32) (r : FVec F S512x1024 .bf16) : FVec F S512x1024 .f32 :=
  k0_pay36 (mulf (addf v (extf .f32 r bitsLt_bf16_f32)) (broadcast S512x1024 sc))

abbrev ofs (s : Fin 2) : BitVec 32 := BitVec.ofNat 32 (512 * s.val)
abbrev hop (h : Fin 2) : BitVec 32 := BitVec.ofNat 32 h.val

variable (I : Inp F)

/-- The products, by the row blocks the kernel takes them of. -/
def mR0 (c : Dev nD) (s : Fin 2) : FVec F S512x1024 .f32 := mm (rows (I.x c) (k0_off1 c (ofs s)) (k0_off1_inb c s)) (colsL (I.w c))
def mL0 (c : Dev nD) (s : Fin 2) : FVec F S512x1024 .f32 := mm (rows (I.x c) (k0_off2 c (ofs s)) (k0_off2_inb c s)) (colsR (I.w c))
def mR (c : Dev nD) (h s : Fin 2) : FVec F S512x1024 .f32 := mm (rows (I.x c) (k0_off3 c (hop h) (ofs s)) (k0_off3_inb c h s)) (colsL (I.w c))
def mL (c : Dev nD) (h s : Fin 2) : FVec F S512x1024 .f32 := mm (rows (I.x c) (k0_off4 c (hop h) (ofs s)) (k0_off4_inb c h s)) (colsR (I.w c))
def mR3 (c : Dev nD) (s : Fin 2) : FVec F S512x1024 .f32 := mm (rows (I.x c) (k0_off5 c (ofs s)) (k0_off5_inb c s)) (colsL (I.w c))
def mL3 (c : Dev nD) (s : Fin 2) : FVec F S512x1024 .f32 := mm (rows (I.x c) (k0_off5 c (ofs s)) (k0_off5_inb c s)) (colsR (I.w c))

/-- What each device sends: chain R, hop 0, 1, 2. -/
def sr0 (c : Dev nD) (s : Fin 2) : FVec F S512x1024 .fp8e4m3 := nar (mR0 I c s)
def sr1 (c : Dev nD) (s : Fin 2) : FVec F S512x1024 .bf16 := add8 (mR I c 0 s) (sr0 I (prv c) s)
def sr2 (c : Dev nD) (s : Fin 2) : FVec F S512x1024 .bf16 := add16 (mR I c 1 s) (sr1 I (prv c) s)
/-- Chain L, hop 0, 1, 2. -/
def sl0 (c : Dev nD) (s : Fin 2) : FVec F S512x1024 .fp8e4m3 := nar (mL0 I c s)
def sl1 (c : Dev nD) (s : Fin 2) : FVec F S512x1024 .bf16 := add8 (mL I c 0 s) (sl0 I (nxt c) s)
def sl2 (c : Dev nD) (s : Fin 2) : FVec F S512x1024 .bf16 := add16 (mL I c 1 s) (sl1 I (nxt c) s)

/-- The one index of a scale. -/
abbrev ix1 : S1.Idx := Shape.Idx.first (numel1_S1.symm ▸ Nat.one_pos)

/-- The scalar the sums are scaled by. -/
def scl (c : Dev nD) : F .f32 := Scalar.mulf (I.sx c ix1) (I.sw c ix1)

/-- The result's blocks: left and right columns, by row halves. -/
def outR (c : Dev nD) (s : Fin 2) : FVec F S512x1024 .f32 := fin (mR3 I c s) (scl I c) (sr2 I (prv c) s)
def outL (c : Dev nD) (s : Fin 2) : FVec F S512x1024 .f32 := fin (mL3 I c s) (scl I c) (sl2 I (nxt c) s)

/-! ## The schedule -/

/-- What the landing or the end of the copy on DMA cell `n` of `c` hands it. -/
def payD (n : ℕ) (c : Dev nD) : sProp 𝕄 :=
  match n with
  | 5 => OwnE c (sa b11) | 6 => OwnE c (sb b11)
  | 7 => OwnE c (sa b7) | 8 => OwnE c (sb b7) | 9 => OwnE c (sa b7) | 10 => OwnE c (sb b7)
  | 11 => Own c (sa b13) (sr0 I (prv c) 0) | 12 => Own c (sb b13) (sr0 I (prv c) 1)
  | 13 => Own c (q10 b9) (sr1 I (prv c) 0) | 14 => Own c (q11 b9) (sr1 I (prv c) 1)
  | 15 => Own c (q20 b9) (sr2 I (prv c) 0) | 16 => Own c (q21 b9) (sr2 I (prv c) 1)
  | 17 => OwnE c (sa b12) | 18 => OwnE c (sb b12)
  | 19 => OwnE c (sa b8) | 20 => OwnE c (sb b8) | 21 => OwnE c (sa b8) | 22 => OwnE c (sb b8)
  | 23 => Own c (sa b14) (sl0 I (nxt c) 0) | 24 => Own c (sb b14) (sl0 I (nxt c) 1)
  | 25 => Own c (q10 b10) (sl1 I (nxt c) 0) | 26 => Own c (q11 b10) (sl1 I (nxt c) 1)
  | 27 => Own c (q20 b10) (sl2 I (nxt c) 0) | 28 => Own c (q21 b10) (sl2 I (nxt c) 1)
  | _ => iprop(emp)

/-- The size of the slots of hop 0, and of the later hops. -/
abbrev N8 : ℕ := (sa b13).view.dmaCredit
abbrev N16 : ℕ := (q10 b9).view.dmaCredit
theorem N8_pos : 0 < N8 := View.dmaCredit_pos _ (by decide)
theorem N16_pos : 0 < N16 := View.dmaCredit_pos _ (by decide)

def amtD (n : ℕ) : ℕ := if (n - 5) % 6 < 2 then N8 else N16
theorem amtD_pos (n : ℕ) : 0 < amtD n := by unfold amtD; split; exacts [N8_pos, N16_pos]

/-- The receive slots of chain R at a device, at any contents; -/
def slotsR (c : Dev nD) : sProp 𝕄 :=
  iprop(OwnE c (sa b13) ∗ OwnE c (sb b13) ∗ OwnE c (q10 b9) ∗ OwnE c (q11 b9) ∗ OwnE c (q20 b9) ∗ OwnE c (q21 b9))
/-- and of chain L. -/
def slotsL (c : Dev nD) : sProp 𝕄 :=
  iprop(OwnE c (sa b14) ∗ OwnE c (sb b14) ∗ OwnE c (q10 b10) ∗ OwnE c (q11 b10) ∗ OwnE c (q20 b10) ∗ OwnE c (q21 b10))

def barPay (d : Bool) (c : Dev nD) : sProp 𝕄 := if d then slotsR (nxt c) else slotsL (prv c)

def dutiesOf (q : SemLoc sig) : Finset Bool :=
  match q with
  | .reg _ => Finset.univ
  | .dma q => if 5 ≤ q.val then {false} else ∅

def Rd : Rounds.Schedule (GSem nD τ sig) Bool 𝕄 where
  duties g r := if r = 0 ∧ g.1.2 = .tc then dutiesOf g.2 else ∅
  unitless _ := False
  amount g _ _ := match g.2 with | .reg _ => 1 | .dma q => amtD q.val
  payload g _ d := match g.2 with | .reg _ => barPay d g.1.1 | .dma q => payD I q.val g.1.1
  amount_pos g _ _ _ := by
    rcases g with ⟨t, q | q⟩
    · exact Nat.one_pos
    · exact amtD_pos _

instance slotsR_storable (c : Dev nD) : BI.Storable (upEmb : UEmb _ 𝕄) (slotsR (F := F) c) := by unfold slotsR; infer_instance
instance slotsL_storable (c : Dev nD) : BI.Storable (upEmb : UEmb _ 𝕄) (slotsL (F := F) c) := by unfold slotsL; infer_instance
instance barPay_storable (d : Bool) (c : Dev nD) : BI.Storable (upEmb : UEmb _ 𝕄) (barPay (F := F) d c) := by
  unfold barPay; split <;> infer_instance
instance payD_storable (n : ℕ) (c : Dev nD) : BI.Storable (upEmb : UEmb _ 𝕄) (payD I n c) := by
  unfold payD; split <;> infer_instance
instance Rd_payload_storable (g : GSem nD τ sig) (r : ℕ) (d : Bool) : BI.Storable (upEmb : UEmb _ 𝕄) ((Rd I).payload g r d) := by
  rcases g with ⟨t, q | q⟩
  · exact barPay_storable d t.1
  · exact payD_storable I q.val t.1

section Sched
variable (c : Dev nD)

theorem duties_bar : (Rd I).duties (barCell c) 0 = Finset.univ := by dsimp only [Rd]; rw [if_pos ⟨rfl, rfl⟩]; rfl
theorem duties_d (q : DmaSem sig) (h : 5 ≤ q.val) : (Rd I).duties (dcell c q) 0 = {false} := by
  dsimp only [Rd]; rw [if_pos ⟨rfl, rfl⟩]; exact if_pos h
theorem duties_later (g : GSem nD τ sig) : ∀ r, 1 ≤ r → (Rd I).duties g r = ∅ :=
  fun r hr => if_neg fun h => by omega

theorem amount_bar (d : Bool) : (Rd I).amount (barCell c) 0 d = 1 := rfl
theorem amount_d (q : DmaSem sig) (d : Bool) : (Rd I).amount (dcell c q) 0 d = amtD q.val := rfl

theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_d (q : DmaSem sig) (h : 5 ≤ q.val) : (Rd I).expect (dcell c q) 0 = amtD q.val := by
  unfold Schedule.expect Schedule.amountOf; rw [duties_d I c q h, Finset.sum_singleton, amount_d]

theorem payload_bar (d : Bool) : (Rd I).payload (barCell c) 0 d = barPay d c := rfl
theorem payload_d (q : DmaSem sig) (d : Bool) : (Rd I).payload (dcell c q) 0 d = payD I q.val c := rfl

theorem rest_bar : bigSep ((Rd I).duties (barCell c) 0 \ ∅) (fun d => (Rd I).payload (barCell c) 0 d)
    = iprop(slotsL (prv c) ∗ slotsR (nxt c)) := by
  rw [Finset.sdiff_empty, duties_bar, bigSep_univ_eq_bigSepL [false, true] (by decide) (by decide), bigSepL_cons_cons, bigSepL_singleton,
    payload_bar, payload_bar]
  rfl
theorem rest_d (q : DmaSem sig) (h : 5 ≤ q.val) :
    bigSep ((Rd I).duties (dcell c q) 0 \ ∅) (fun d => (Rd I).payload (dcell c q) 0 d) = payD I q.val c := by
  rw [Finset.sdiff_empty, duties_d I c q h, bigSep_singleton, payload_d]

end Sched

/-! ## What each device owes, and the levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a DMA cell. -/
def lvD (n : ℕ) : ℕ := if 11 ≤ n ∧ n < 17 then (n - 11) / 2 + 2 else if 23 ≤ n then (n - 23) / 2 + 2 else 0
def lv (g : GSem nD τ sig) (_ : Unit) : ℕ := match g.2 with | .reg _ => 1 | .dma q => lvD q.val

/-- The neighbour a chain's copies go to: right for chain R (`true`), left for chain L. -/
def tgt (b : Bool) (c : Dev nD) : Dev nD := if b then nxt c else prv c

/-- The landings a device owes, in the order it issues the copies: the chain and the receive cell. -/
abbrev sends : List (Bool × DmaSem sig) :=
  [(true, 11), (false, 23), (true, 12), (false, 24), (true, 13), (false, 25), (true, 14), (false, 26), (true, 15), (false, 27), (true, 16), (false, 28)]

def OwL (c : Dev nD) : List (Bool × DmaSem sig) → CellTallies nD τ sig Unit
  | [] => 0
  | p :: ps => OwL c ps + tallyAt (dcell (tgt p.1 c) p.2) () (amtD p.2.val)

/-- At launch: the twelve landings and one unit on each neighbour's barrier cell, the left one's first. -/
def O₀ (c : Dev nD) : CellTallies nD τ sig Unit := (OwL c sends + tallyAt (barCell (nxt c)) () 1) + tallyAt (barCell (prv c)) () 1

theorem tally_pos {g₀ g : GSem nD τ sig} {n : ℕ} {u : Unit} (h : 0 < (tallyAt g₀ () n : CellTallies nD τ sig Unit) g u) : g = g₀ := by
  by_contra hn
  rw [tallyAt_apply, if_neg (fun h' => hn h'.1)] at h
  exact Nat.lt_irrefl 0 h

theorem OwL_pos {c : Dev nD} {g : GSem nD τ sig} {u : Unit} : ∀ {ps : List (Bool × DmaSem sig)}, 0 < OwL c ps g u →
    ∃ p ∈ ps, g = dcell (tgt p.1 c) p.2
  | [], h => absurd h (Nat.lt_irrefl 0)
  | p :: ps, h => by
    unfold OwL at h
    rw [Pi.add_apply, Finsupp.add_apply] at h
    rcases Nat.pos_of_ne_zero (Nat.ne_of_gt h) |> fun h' => (Nat.add_pos_iff_pos_or_pos.mp h') with h' | h'
    · obtain ⟨p', hp, e⟩ := OwL_pos h'
      exact ⟨p', List.mem_cons_of_mem _ hp, e⟩
    · exact ⟨p, List.mem_cons_self, tally_pos h'⟩

theorem O₀_pos {c : Dev nD} {g : GSem nD τ sig} {u : Unit} (h : 0 < O₀ c g u) :
    (∃ p ∈ sends, g = dcell (tgt p.1 c) p.2) ∨ g = barCell (nxt c) ∨ g = barCell (prv c) := by
  unfold O₀ at h
  rw [Pi.add_apply, Finsupp.add_apply, Pi.add_apply, Finsupp.add_apply] at h
  rcases Nat.add_pos_iff_pos_or_pos.mp h with h' | h'
  · rcases Nat.add_pos_iff_pos_or_pos.mp h' with h'' | h''
    · exact .inl (OwL_pos h'')
    · exact .inr (.inl (tally_pos h''))
  · exact .inr (.inr (tally_pos h'))

/-- A wait on a cell whose level lies below every landing still owed. -/
theorem mayWait_OwL (c : Dev nD) (sm : SemLoc sig) (ps : List (Bool × DmaSem sig)) (hs : ∀ p ∈ ps, lv ((c : Thread nD τ), sm) () < lvD p.2.val) :
    (levAts L lv : sProp 𝕄) ⊢ MayWait (c : Thread nD τ) sm () (OwL c ps) :=
  MayOwe.of_cut (L := L) (lev := lv) (lv ((c : Thread nD τ), sm) ()) (fun p hp => by rw [Finset.mem_singleton.mp hp, L_tc]; exact Finset.mem_singleton_self _)
    (fun g u hg => by obtain ⟨p, _, rfl⟩ := OwL_pos hg; exact Finset.mem_singleton_self _)
    (fun p hp => by rw [Finset.mem_singleton.mp hp])
    (fun g u hg => by obtain ⟨p, hp, rfl⟩ := OwL_pos hg; exact hs p hp)

/-- The copies that bring the operands in: waited for while everything, or nothing, is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), SemLoc.dma q) () = 0 := by
      show lvD q.val = 0
      unfold lvD; rw [if_neg (by omega), if_neg (by omega)]
    refine MayOwe.of_cut (L := L) (lev := lv) 0 (fun p hp => by rw [Finset.mem_singleton.mp hp, L_tc]; exact Finset.mem_singleton_self _)
      (fun g u hg => by rcases O₀_pos hg with ⟨p, _, rfl⟩ | rfl | rfl <;> exact Finset.mem_singleton_self _)
      (fun p hp => by rw [Finset.mem_singleton.mp hp]; exact le_of_eq h0)
      (fun g u hg => by
        rcases O₀_pos hg with ⟨p, hp, rfl⟩ | rfl | rfl
        · have : ∀ p ∈ sends, 0 < lvD p.2.val := by decide
          exact this p hp
        · exact Nat.one_pos
        · exact Nat.one_pos)
  · rw [MayWait_zero]; iintro -; iempintro

/-- What a device owes, the waits it has made left unsaid. -/
def owesE (c : Dev nD) (O : CellTallies nD τ sig Unit) : sProp 𝕄 := iprop(∃ W, owes (c : Thread nD τ) O W)

/-- The records every step reads: the cells' invariants, that each has reached round 0, and the levels. -/
def Recs (K : Dev nD × Fin 25 → ℕ) : sProp 𝕄 :=
  iprop((bigSep Finset.univ fun ck => cellInv ER (Rd I) (K ck) (kcell ck)) ∗ (bigSep Finset.univ fun ck => reached ER (kcell ck) 0) ∗ levAts L lv)

instance Recs_persistent (K : Dev nD × Fin 25 → ℕ) : BI.Persistent (Recs I K) := by unfold Recs; infer_instance

theorem Recs_inv (K : Dev nD × Fin 25 → ℕ) (ck : Dev nD × Fin 25) : Recs I K ⊢ cellInv ER (Rd I) (K ck) (kcell ck) := by
  unfold Recs
  iintro ⟨H, -, -⟩
  iapply (show (bigSep Finset.univ fun ck => cellInv ER (Rd I) (K ck) (kcell ck) : sProp 𝕄) ⊢ cellInv ER (Rd I) (K ck) (kcell ck) from
    bigSep_elim (Finset.mem_univ ck)) $$ H
theorem Recs_reached (K : Dev nD × Fin 25 → ℕ) (ck : Dev nD × Fin 25) : Recs I K ⊢ reached ER (kcell ck) 0 := by
  unfold Recs
  iintro ⟨-, H, -⟩
  iapply (show (bigSep Finset.univ fun ck => reached ER (kcell ck) 0 : sProp 𝕄) ⊢ reached ER (kcell ck) 0 from
    bigSep_elim (Finset.mem_univ ck)) $$ H
theorem Recs_levs (K : Dev nD × Fin 25 → ℕ) : Recs I K ⊢ levAts L lv := by
  unfold Recs
  iintro ⟨-, -, H⟩
  iexact H

theorem Recs_inv_d (K : Dev nD × Fin 25 → ℕ) (c : Dev nD) (q : DmaSem sig) (h : 5 ≤ q.val) :
    Recs I K ⊢ cellInv ER (Rd I) (K (c, cidx q)) (dcell c q) := by
  have := Recs_inv I K (c, cidx q)
  rwa [show kcell (c, cidx q) = dcell c q from congrArg (Prod.mk (c : Thread nD τ)) (csem_cidx q h)] at this
theorem Recs_reached_d (K : Dev nD × Fin 25 → ℕ) (c : Dev nD) (q : DmaSem sig) (h : 5 ≤ q.val) :
    Recs I K ⊢ reached ER (dcell c q) 0 := by
  have := Recs_reached I K (c, cidx q)
  rwa [show kcell (c, cidx q) = dcell c q from congrArg (Prod.mk (c : Thread nD τ)) (csem_cidx q h)] at this

end Cert.Ring
-- ==== Proof.Steps.lean ====
/-
# One step at a time

Each effect of the body that touches another device or a semaphore, as one rule: a signal, the wait on the barrier
cell, a copy to a neighbour, the wait on a DMA cell (which also closes the cell, since it has one round). And the
loads and stores of whole buffers.
-/
module

public import proofs.«01_k».proof.Proof.Proto

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

/-- The right to copy into `dst` of device `t`, `s` and `r` the send and the receive cell of the copy. -/
def Perm (c t : Dev nD) {e : EltTy} (dst : Memref sig .tc .vmem S512x1024 e) (s r : DmaSem sig) : sProp 𝕄 :=
  iprop(OwnE t dst ∗ dutyTok ER (dcell c s) 0 false ∗ dutyTok ER (dcell t r) 0 false ∗ atPos ER (dcell c s) 0 ∅ 0)

/-- The right to wait on a DMA cell. -/
def Wt (c : Dev nD) (q : DmaSem sig) : sProp 𝕄 :=
  iprop(cred (tallyAt (dcell c q) () (amtD q.val)) ∗ atPos ER (dcell c q) 0 ∅ 0)

/-- A signal to a neighbour's barrier cell. -/
theorem signal_step (c n t : Dev nD) (hn : n = t) (d : Bool) {k' : ℕ} (hk : 1 = k') {O₀ : CellTallies nD τ sig Unit} (O : CellTallies nD τ sig Unit)
    (hO : O₀ = O + tallyAt (barCell t) () 1) {α : Type} {Q : α → sProp 𝕄} {k : PUnit → Prog (TpuEff nD τ sig (Elt F) Λ₀ .tc) α} :
    iprop(Recs I K ∗ owesE c O₀ ∗ dutyTok ER (barCell t) 0 d ∗ barPay d t)
      ⊢ iprop((owesE c O -∗ WP c (k ⟨⟩) Q) -∗ WP c (.op (.semSignal (n : Thread nD τ) barS k') k) Q) := by
  subst hn hk
  unfold owesE
  iintro ⟨#HR, ⟨%W, HO⟩, Ht, Hp⟩ Hk
  ihave #HI := (Recs_inv I K (n, 0)) $$ HR
  ihave #Hr := (Recs_reached I K (n, 0)) $$ HR
  iapply (Rounds.wp_signal 𝒱₀ ER (Rd I) (c : Thread nD τ) none (dst := (n : Thread nD τ)) (κ := K (n, 0))
      (d := d) (by rw [duties_bar]; exact Finset.mem_univ _) (amount_bar I n d) () O hO) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for both neighbours: their receive slots come with it. -/
theorem barrier_step (c : Dev nD) {k' : ℕ} (hk : k' = 2) {α : Type} {Q : α → sProp 𝕄} {k : PUnit → Prog (TpuEff nD τ sig (Elt F) Λ₀ .tc) α} :
    iprop(Recs I K ∗ owesE c (OwL c sends) ∗ cred (tallyAt (barCell c) () 2) ∗ atPos ER (barCell c) 0 ∅ 0)
      ⊢ iprop(((owesE c (OwL c sends) ∗ semVal (barCell c) 0 ∗ slotsL (prv c) ∗ slotsR (nxt c)) -∗ WP c (k ⟨⟩) Q)
          -∗ WP c (.op (.semWait barS k') k) Q) := by
  subst hk
  unfold owesE
  iintro ⟨#HR, ⟨%W, HO⟩, Hc, Hat⟩ Hk
  ihave #HI := (Recs_inv I K (c, 0)) $$ HR
  ihave #Hlev := (Recs_levs I K) $$ HR
  iapply (Rounds.wp_wait_rest_token 𝒱₀ ER (Rd I) (c : Thread nD τ) none (κ := K (c, 0))
      (wpE_semWait_eq 𝒱₀ (c : Thread nD τ) none Set.univ) (Set.mem_univ _) () (O := OwL c sends) (W := W) (R := 0) (m := 0) (T := ∅)
      (by rw [expect_bar])) $$ [Hc HO Hat]
  · isplitr; · iexact HI
    isplitl [Hc]; · iexact Hc
    isplitl [HO]; · iexact HO
    isplitr
    · iapply (mayWait_OwL c (.reg barS) sends (by
        show ∀ p ∈ sends, 1 < lvD p.2.val
        decide))
      iexact Hlev
    iexact Hat
  iintro ⟨HO, Hat, -, Hpay⟩
  ihave Hp := (Entails.of_eq (rest_bar I c)) $$ Hpay
  icases Hp with ⟨HL, HR'⟩
  imod (Rounds.cell_close ER (Rd I) (Set.mem_univ (K (c, 0))) (fun h => h) (R := 0 + 1) (duties_later I (barCell c))) $$ [Hat] with Hz
  · isplitr; · iexact HI
    iexact Hat
  iapply Hk
  isplitl [HO]; · iexists _; iexact HO
  isplitl [Hz]; · iexact Hz
  isplitl [HL]; · iexact HL
  iexact HR'

/-- The wait on a DMA cell: what the copy hands over, and the cell at zero for good. -/
theorem wait_step (c : Dev nD) (q S : DmaSem sig) (hS : S = q) (hq : 5 ≤ q.val) {cs cs' : Space} {s s' : Shape} {e e' : EltTy}
    {src : Memref sig .tc cs s e} {dst : Memref sig .tc cs' s' e'} {h₁ : src.view.WordExact} {h₂ : dst.view.WordExact}
    (hN : dst.view.dmaCredit = amtD q.val) (ps : List (Bool × DmaSem sig)) (hs : ∀ p ∈ ps, lvD q.val < lvD p.2.val)
    {α : Type} {Q : α → sProp 𝕄} {k : PUnit → Prog (TpuEff nD τ sig (Elt F) Λ₀ .tc) α} :
    iprop(Recs I K ∗ owesE c (OwL c ps) ∗ Wt c q)
      ⊢ iprop(((owesE c (OwL c ps) ∗ semVal (dcell c q) 0 ∗ payD I q.val c) -∗ WP c (k ⟨⟩) Q)
          -∗ WP c (.op (.waitDma2 S src dst h₁ h₂) k) Q) := by
  subst hS
  unfold owesE Wt
  iintro ⟨#HR, ⟨%W, HO⟩, Hc, Hat⟩ Hk
  ihave #HI := (Recs_inv_d I K c S hq) $$ HR
  ihave #Hlev := (Recs_levs I K) $$ HR
  rw [← hN]
  iapply (Rounds.wp_wait_rest_token 𝒱₀ ER (Rd I) (c : Thread nD τ) none (κ := K (c, cidx S))
      (wpE_waitDma2_eq 𝒱₀ (c : Thread nD τ) none Set.univ) (Set.mem_univ _) () (O := OwL c ps) (W := W) (R := 0) (m := 0) (T := ∅)
      (by rw [Nat.zero_add, expect_d I c S hq, hN])) $$ [Hc HO Hat]
  · isplitr; · iexact HI
    isplitl [Hc]; · iexact Hc
    isplitl [HO]; · iexact HO
    isplitr
    · iapply (mayWait_OwL c (.dma S) ps hs)
      iexact Hlev
    iexact Hat
  iintro ⟨HO, Hat, -, Hpay⟩
  ihave Hp := (Entails.of_eq (rest_d I c S hq)) $$ Hpay
  imod (Rounds.cell_close ER (Rd I) (Set.mem_univ (K (c, cidx S))) (fun h => h) (R := 0 + 1) (duties_later I (dcell c S))) $$ [Hat] with Hz
  · isplitr; · iexact HI
    iexact Hat
  iapply Hk
  isplitl [HO]; · iexists _; iexact HO
  isplitl [Hz]; · iexact Hz
  iexact Hp

/-- A copy of a send slot, owned at `X`, into a neighbour's receive slot. -/
theorem send_step (c n t : Dev nD) (hn : n = t) (s r S R : DmaSem sig) (hS : S = s) (hR : R = r) (hs : 5 ≤ s.val) (hr : 5 ≤ r.val)
    (hroute : τ.routes (c : Thread nD τ) (t : Thread nD τ) = true)
    {e : EltTy} {src dst : Memref sig .tc .vmem S512x1024 e} (X : S512x1024.Idx → Elt F e)
    (hN : dst.view.dmaCredit = amtD r.val) (hsr : amtD s.val = amtD r.val)
    (hpS : OwnE c src ⊢ payD I s.val c) (hpR : Own t dst X ⊢ payD I r.val t)
    {hsc : (dst : Memref sig (Dev.tc n : Thread nD τ).2.kind .vmem S512x1024 e).view.ref.isScScratch = false}
    {hsrc : src.view.WordExact} {hdst : dst.view.WordExact}
    {hsem : DmaTarget.Typed .vmem (.dma R) (.remote (Dev.tc n : Thread nD τ) dst (.dma S) hsc)}
    {O₀ : CellTallies nD τ sig Unit} (O : CellTallies nD τ sig Unit) (hO : O₀ = O + tallyAt (dcell t r) () (amtD r.val))
    {α : Type} {Q : α → sProp 𝕄} {k : PUnit → Prog (TpuEff nD τ sig (Elt F) Λ₀ .tc) α} :
    iprop(Recs I K ∗ owesE c O₀ ∗ Own c src X ∗ Perm c t dst s r)
      ⊢ iprop(((owesE c O ∗ Wt c s) -∗ WP c (k ⟨⟩) Q)
          -∗ WP c (.op (.enqueueDma src (.remote (Dev.tc n : Thread nD τ) dst (.dma S) hsc) (.dma R) hsrc hdst hsem) k) Q) := by
  subst hn hS hR
  unfold owesE Wt Perm
  iintro ⟨#HR, ⟨%W, HO⟩, Hsrc, ⟨%Y, Hdst⟩, HtS, HtR, Hat⟩ Hk
  ihave #HIS := (Recs_inv_d I K c S hs) $$ HR
  ihave #HIR := (Recs_inv_d I K n R hr) $$ HR
  ihave #HrS := (Recs_reached_d I K c S hs) $$ HR
  ihave #HrR := (Recs_reached_d I K n R hr) $$ HR
  ihave Hsrc := (own_elim c src X) $$ Hsrc
  icases Hsrc with ⟨%fs, %hfs, Hsrc⟩
  ihave Hdst := (own_elim n dst Y) $$ Hdst
  icases Hdst with ⟨%fd, -, Hdst⟩
  iapply (Rounds.wp_send_pointsTo 𝒱₀ ER (Rd I) (c : Thread nD τ) none (κ₁ := K (c, cidx S)) (κ₂ := K (n, cidx R))
    (c' := (n : Thread nD τ)) (src := src) (dst := dst) (sS := .dma S) (sem := .dma R) (r₁ := 0) (r₂ := 0) (d₁ := false) (d₂ := false) (fs := fs) (fd := fd)
    (by rw [duties_d I c S hs]; exact Finset.mem_singleton_self _) (by rw [duties_d I n R hr]; exact Finset.mem_singleton_self _)
    () () (amtD R.val) (show dst.view.amount (.dma R) = _ from hN) ((amount_d I c S false).trans hsr) (amount_d I n R false) O hO (W := W)
    (((own_of c src X fs hfs).trans (by iintro H; iexists X; iexact H)).trans hpS)
    ((own_of n dst X _ (by rw [View.read_write_univ]; exact hfs)).trans hpR) hroute) $$ [Hsrc Hdst HO HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  rw [hsr]
  iapply Hk
  isplitl [HO]; · iexists W; iexact HO
  isplitl [Hc]; · iexact Hc
  iexact Hat

/-! ## Whole buffers -/

theorem hz2 : (![0, 0] : Fin 2 → Nat) = fun _ => 0 := funext fun a => by fin_cases a <;> rfl

/-- The store of a whole buffer. -/
theorem store_all {cs : CoreSpace} {s : Shape} {e : EltTy} (c : Dev nD) {M : Memref sig .tc cs s e} {off : Fin s.rank → Nat} (hz : off = fun _ => 0)
    {hb : ∀ a, off a + s.size a ≤ s.size a} {w : s.Idx → Elt F e} {hx : (M.access (Rect.unit off s.size hb)).Stores Finset.univ}
    {hm : (Finset.univ : Finset (Rect.unit off s.size hb).shape.Idx) = Finset.univ ∨ ∀ a, (Rect.unit off s.size hb).stride a = 1}
    {α : Type} {k : PUnit → Prog (TpuEff nD τ sig (Elt F) Λ₀ .tc) α} {Q : α → sProp 𝕄} :
    OwnE c M ⊢ iprop((Own c M w -∗ WP c (k ⟨⟩) Q)
      -∗ WP c (.op (.store M (Rect.unit off s.size hb) w Finset.univ hx hm) k) Q) := by
  subst hz
  iintro ⟨%X, H⟩ Hk
  ihave H := (own_elim c _ X) $$ H
  icases H with ⟨%f, %hf, H⟩
  iapply (wp_store 𝒱₀ (c : Thread nD τ) none Set.univ (m := M) (r := Rect.unit (fun _ => 0) s.size hb) (Mk := Finset.univ) (S := M.view.set)
    (Finset.Subset.trans (View.setOn_subset_set _ _) (View.set_slice_subset _ _))) $$ H
  iintro H
  iapply Hk
  iapply (own_of c M w ((M.access (Rect.unit (fun _ => 0) s.size hb)).write (Elt F) f w Finset.univ) (by
    have h := View.read_write_univ (v := M.access (Rect.unit (fun _ => 0) s.size hb)) f w
    funext i
    have h' := congrFun h i
    have e : (M.access (Rect.unit (fun _ => 0) s.size hb)).read (Elt F) ((M.access (Rect.unit (fun _ => 0) s.size hb)).write (Elt F) f w Finset.univ) i
      = M.view.read (Elt F) ((M.access (Rect.unit (fun _ => 0) s.size hb)).write (Elt F) f w Finset.univ) ((Rect.whole s).emb i) := rfl
    rw [e, Rect.emb_whole_apply] at h'
    exact h')) $$ H

/-- The load of a whole buffer reads it. -/
theorem idx_all {s : Shape} {α : Type} (X : s.Idx → α) {off : Fin s.rank → Nat} (hz : off = fun _ => 0) (hb : ∀ a, off a + s.size a ≤ s.size a) :
    (fun i => X ((Rect.unit off s.size hb).toLoadRect.idx i)) = X := by
  subst hz; funext i
  exact congrArg X (Rect.emb_whole_apply s i)

end Cert.Ring
-- ==== Proof.Vals.lean ====
/-
# What is stored

The values the kernel stores into its slots, in the terms of the protocol; and the loads and stores of slots at
them.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Values

variable (a : Vec F S512x1024 .fp8e4m3) (b : Vec F S1024x1024 .fp8e4m3) (h' : S1x512x1024.ShapeCasts S512x1024)

theorem sv5 : shapeCast S512x1024 (k0_pay5 a b) h' = nar (mm a b) := shapeCast_shapeCast (nar (mm a b)) _ _
theorem sv6 : shapeCast S512x1024 (k0_pay6 a b) h' = nar (mm a b) := shapeCast_shapeCast (nar (mm a b)) _ _
theorem sv7 : shapeCast S512x1024 (k0_pay7 a b) h' = nar (mm a b) := shapeCast_shapeCast (nar (mm a b)) _ _
theorem sv9 (v : FVec F S512x1024 .fp8e4m3) : shapeCast S512x1024 (k0_pay9 v) h' = v := shapeCast_shapeCast v _ _
theorem sv18 (v : FVec F S512x1024 .f32) : shapeCast S512x1024 (k0_pay18 v) h' = truncf .bf16 v bitsLt_bf16_f32 :=
  shapeCast_shapeCast (truncf .bf16 v bitsLt_bf16_f32) _ _
theorem sv27 (v : FVec F S512x1024 .bf16) : shapeCast S512x1024 (k0_pay27 v) h' = v := shapeCast_shapeCast v _ _
theorem sv14 (v : FVec F S512x1024 .f32) (r : FVec F S512x1024 .fp8e4m3) (h : S512x1024.ShapeCasts S1x512x1024) :
    shapeCast S512x1024 (k0_pay14 v (shapeCast S1x512x1024 r h)) h' = add8 v r := by
  refine (shapeCast_shapeCast (add8 v (shapeCast S512x1024 (shapeCast S1x512x1024 r h) shapeCasts_S1x512x1024_S512x1024)) _ _).trans ?_
  rw [shapeCast_shapeCast]
theorem sv15 (v : FVec F S512x1024 .f32) (r : FVec F S512x1024 .fp8e4m3) (h : S512x1024.ShapeCasts S1x512x1024) :
    shapeCast S512x1024 (k0_pay15 v (shapeCast S1x512x1024 r h)) h' = add8 v r := by
  refine (shapeCast_shapeCast (add8 v (shapeCast S512x1024 (shapeCast S1x512x1024 r h) shapeCasts_S1x512x1024_S512x1024)) _ _).trans ?_
  rw [shapeCast_shapeCast]
theorem sv16 (v : FVec F S512x1024 .f32) (r : FVec F S512x1024 .fp8e4m3) (h : S512x1024.ShapeCasts S1x512x1024) :
    shapeCast S512x1024 (k0_pay16 v (shapeCast S1x512x1024 r h)) h' = add8 v r := by
  refine (shapeCast_shapeCast (add8 v (shapeCast S512x1024 (shapeCast S1x512x1024 r h) shapeCasts_S1x512x1024_S512x1024)) _ _).trans ?_
  rw [shapeCast_shapeCast]
theorem sv23 (v : FVec F S512x1024 .f32) (r : FVec F S512x1024 .bf16) (h : S512x1024.ShapeCasts S1x1x512x1024) :
    shapeCast S512x1024 (k0_pay23 v (shapeCast S1x1x512x1024 r h)) h' = add16 v r := by
  refine (shapeCast_shapeCast (add16 v (shapeCast S512x1024 (shapeCast S1x1x512x1024 r h) shapeCasts_S1x1x512x1024_S512x1024)) _ _).trans ?_
  rw [shapeCast_shapeCast]
theorem sv24 (v : FVec F S512x1024 .f32) (r : FVec F S512x1024 .bf16) (h : S512x1024.ShapeCasts S1x1x512x1024) :
    shapeCast S512x1024 (k0_pay24 v (shapeCast S1x1x512x1024 r h)) h' = add16 v r := by
  refine (shapeCast_shapeCast (add16 v (shapeCast S512x1024 (shapeCast S1x1x512x1024 r h) shapeCasts_S1x1x512x1024_S512x1024)) _ _).trans ?_
  rw [shapeCast_shapeCast]
theorem sv25 (v : FVec F S512x1024 .f32) (r : FVec F S512x1024 .bf16) (h : S512x1024.ShapeCasts S1x1x512x1024) :
    shapeCast S512x1024 (k0_pay25 v (shapeCast S1x1x512x1024 r h)) h' = add16 v r := by
  refine (shapeCast_shapeCast (add16 v (shapeCast S512x1024 (shapeCast S1x1x512x1024 r h) shapeCasts_S1x1x512x1024_S512x1024)) _ _).trans ?_
  rw [shapeCast_shapeCast]

theorem v17 (v : FVec F S512x1024 .f32) (r : FVec F S512x1024 .fp8e4m3) (h : S512x1024.ShapeCasts S1x512x1024) :
    k0_pay17 v (shapeCast S1x512x1024 r h) = addf v (extf .f32 r bitsLt_fp8e4m3_f32) := by
  show addf v (extf .f32 (shapeCast S512x1024 (shapeCast S1x512x1024 r h) _) _) = _
  rw [shapeCast_shapeCast]
theorem v26 (v : FVec F S512x1024 .f32) (r : FVec F S512x1024 .bf16) (h : S512x1024.ShapeCasts S1x1x512x1024) :
    k0_pay26 v (shapeCast S1x1x512x1024 r h) = add16 v r := by
  show add16 v (shapeCast S512x1024 (shapeCast S1x1x512x1024 r h) _) = _
  rw [shapeCast_shapeCast]
theorem v3 (v : Vec F S4096x1024 .fp8e4m3) : k0_pay3 v = v := by
  show shapeCast _ (shapeCast _ v _) _ = v
  rw [shapeCast_self, shapeCast_self]
theorem v4 (v : Vec F S1024x2048 .fp8e4m3) : k0_pay4 v = v := by
  show shapeCast _ (shapeCast _ v _) _ = v
  rw [shapeCast_self, shapeCast_self]

/-- A product plus what the last hop brought, scaled: before the final function. -/
def pre (v : FVec F S512x1024 .f32) (sc : F .f32) (r : FVec F S512x1024 .bf16) : FVec F S512x1024 .f32 :=
  mulf (addf v (extf .f32 r bitsLt_bf16_f32)) (broadcast S512x1024 sc)

theorem v33 (v : FVec F S512x1024 .f32) (sc : F .f32) (r : FVec F S512x1024 .bf16) (h : S512x1024.ShapeCasts S1x1x512x1024) :
    k0_pay33 v sc (shapeCast S1x1x512x1024 r h) = pre v sc r := by
  show pre v sc (shapeCast S512x1024 (shapeCast S1x1x512x1024 r h) _) = _
  rw [shapeCast_shapeCast]
theorem v34 (v : FVec F S512x1024 .f32) (r : FVec F S512x1024 .bf16) (h : S512x1024.ShapeCasts S1x1x512x1024) :
    k0_pay34 v (shapeCast S1x1x512x1024 r h) = addf v (extf .f32 r bitsLt_bf16_f32) := by
  show addf v (extf .f32 (shapeCast S512x1024 (shapeCast S1x1x512x1024 r h) _) _) = _
  rw [shapeCast_shapeCast]
theorem v38 (v : FVec F S512x1024 .f32) (sc : F .f32) (r : FVec F S512x1024 .bf16) (h : S512x1024.ShapeCasts S1x1x512x1024) :
    k0_pay38 v sc (shapeCast S1x1x512x1024 r h) = pre v sc r := v33 v sc r h
theorem v39 (v : FVec F S512x1024 .f32) (sc : F .f32) (r : FVec F S512x1024 .bf16) (h : S512x1024.ShapeCasts S1x1x512x1024) :
    k0_pay39 v sc (shapeCast S1x1x512x1024 r h) = pre v sc r := v33 v sc r h

/-- The four stores into the result are of the same function. -/
theorem w36 (v : FVec F S512x1024 .f32) (sc : F .f32) (r : FVec F S512x1024 .bf16) : k0_pay36 (pre v sc r) = fin v sc r := rfl
theorem w37 (v : FVec F S512x1024 .f32) (sc : F .f32) (r : FVec F S512x1024 .bf16) :
    k0_pay37 (addf v (extf .f32 r bitsLt_bf16_f32)) (k0_pay35 sc) = fin v sc r := rfl
theorem w1 (v : FVec F S512x1024 .f32) (sc : F .f32) (r : FVec F S512x1024 .bf16) (h : S512x1024.ShapeCasts S1x1x512x1024) :
    k0_pay1 (k0_pay38 v sc (shapeCast S1x1x512x1024 r h)) (k0_pay41 v sc (shapeCast S1x1x512x1024 r h)) (k0_pay42 (F := F)) = fin v sc r := by
  unfold k0_pay41
  rw [v38]
  rfl
theorem w2 (v : FVec F S512x1024 .f32) (sc : F .f32) (r : FVec F S512x1024 .bf16) (h : S512x1024.ShapeCasts S1x1x512x1024) :
    k0_pay2 (k0_pay39 v sc (shapeCast S1x1x512x1024 r h)) (k0_pay40 v sc (shapeCast S1x1x512x1024 r h)) = fin v sc r := by
  unfold k0_pay40
  rw [v39]
  rfl

end Values

/-! ## Loads and stores -/

section Access
variable {cs : CoreSpace} {s : Shape} {e : EltTy}

theorem hz1 : (![0] : Fin 1 → Nat) = fun _ => 0 := funext fun a => by fin_cases a; rfl

/-- A load of a whole buffer. -/
theorem load_all (c : Dev nD) {M : Memref sig .tc cs s e} {off : Fin s.rank → Nat} (hz : off = fun _ => 0)
    {hb : ∀ a, off a + s.size a ≤ s.size a} {hl : M.view.LoadsAt (Rect.unit off s.size hb).toLoadRect} {α : Type} {X : s.Idx → Elt F e}
    {k : (s.Idx → Elt F e) → Prog (TpuEff nD τ sig (Elt F) Λ₀ .tc) α} {Q : α → sProp 𝕄} :
    Own c M X ⊢ iprop((Own c M X -∗ WP c (k X) Q) -∗ WP c (.op (.load M (Rect.unit off s.size hb).toLoadRect hl) k) Q) := by
  have h := load_own (F := F) c (M := M) (r := (Rect.unit off s.size hb).toLoadRect) (hl := hl) (k := k) (Q := Q) X
  rwa [idx_all X hz hb] at h

/-- A load whose value is not used. -/
theorem load_any (c : Dev nD) {M : Memref sig .tc cs s e} {r : LoadRect s} {hl : M.view.LoadsAt r} {α : Type}
    {k : (r.shape.Idx → Elt F e) → Prog (TpuEff nD τ sig (Elt F) Λ₀ .tc) α} {Q : α → sProp 𝕄} :
    OwnE c M ⊢ iprop((∀ v, OwnE c M -∗ WP c (k v) Q) -∗ WP c (.op (.load M r hl) k) Q) := by
  iintro ⟨%X, H⟩ Hk
  iapply (load_own c (M := M) X) $$ H
  iintro H
  iapply Hk $$ %_
  iexists X; iexact H

variable {r : Rect s} {s' : Shape} {hr : ∀ a, r.stride a = 1} {hq : r.shape.Squeezes s'}

theorem slot_any (c : Dev nD) {M : Memref sig .tc cs s e} (h' : s'.ShapeCasts r.shape) (hc : r.shape.ShapeCasts s')
    {hl : M.view.LoadsAt r.toLoadRect} {α : Type}
    {k : (r.shape.Idx → Elt F e) → Prog (TpuEff nD τ sig (Elt F) Λ₀ .tc) α} {Q : α → sProp 𝕄} :
    OwnE c ((M.slice r hr).squeeze s' hq) ⊢ iprop((∀ v, OwnE c ((M.slice r hr).squeeze s' hq) -∗ WP c (k v) Q)
      -∗ WP c (.op (.load M r.toLoadRect hl) k) Q) := by
  iintro ⟨%X, H⟩ Hk
  iapply (load_slot hr hq c (M := M) X h' hc) $$ H
  iintro H
  iapply Hk $$ %_
  iexists X; iexact H

theorem slot_put (c : Dev nD) {M : Memref sig .tc cs s e} {w : r.shape.Idx → Elt F e} {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} (h' : r.shape.ShapeCasts s') (Y : s'.Idx → Elt F e)
    (hY : shapeCast s' w h' = Y) :
    OwnE c ((M.slice r hr).squeeze s' hq) ⊢ iprop((Own c ((M.slice r hr).squeeze s' hq) Y -∗ WP c (k ⟨⟩) Q)
      -∗ WP c (.op (.store M r w Finset.univ hx hm) k) Q) := by
  subst hY
  iintro ⟨%X, H⟩
  iapply (store_slot hr hq c (M := M) X h') $$ H

theorem all_put (c : Dev nD) {M : Memref sig .tc cs s e} {off : Fin s.rank → Nat} (hz : off = fun _ => 0)
    {hb : ∀ a, off a + s.size a ≤ s.size a} {w : s.Idx → Elt F e} {hx : (M.access (Rect.unit off s.size hb)).Stores Finset.univ}
    {hm : (Finset.univ : Finset (Rect.unit off s.size hb).shape.Idx) = Finset.univ ∨ ∀ a, (Rect.unit off s.size hb).stride a = 1}
    {α : Type} {k : PUnit → Prog (TpuEff nD τ sig (Elt F) Λ₀ .tc) α} {Q : α → sProp 𝕄} (Y : s.Idx → Elt F e) (hY : w = Y) :
    OwnE c M ⊢ iprop((Own c M Y -∗ WP c (k ⟨⟩) Q) -∗ WP c (.op (.store M (Rect.unit off s.size hb) w Finset.univ hx hm) k) Q) := by
  subst hY; exact store_all c hz

theorem slice_put {r : Rect s} (hr : ∀ a, r.stride a = 1)
    (c : Dev nD) {M : Memref sig .tc cs s e} {w : r.shape.Idx → Elt F e} {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} (Y : r.shape.Idx → Elt F e) (hY : w = Y) :
    OwnE c (M.slice r hr) ⊢ iprop((Own c (M.slice r hr) Y -∗ WP c (k ⟨⟩) Q)
      -∗ WP c (.op (.store M r w Finset.univ hx hm) k) Q) := by
  subst hY; exact store_slice hr c

end Access

theorem casts4 : S512x1024.ShapeCasts S1x1x512x1024 := by decide

/-- A load of a slot of S2x512x1024, its value in the shape it is loaded at. -/
theorem recv3 (c : Dev nD) {e : EltTy} {M : Memref sig .tc .vmem S2x512x1024 e} {off : Fin 3 → Nat} {h : ∀ a, off a + S1x512x1024.size a ≤ S2x512x1024.size a}
    {hr : ∀ a, (Rect.unit (s := S2x512x1024) off S1x512x1024.size h).stride a = 1} {hq : (Rect.unit (s := S2x512x1024) off S1x512x1024.size h).shape.Squeezes S512x1024}
    {hl : M.view.LoadsAt (Rect.unit (s := S2x512x1024) off S1x512x1024.size h).toLoadRect} {α : Type}
    {k : (S1x512x1024.Idx → Elt F e) → Prog (TpuEff nD τ sig (Elt F) Λ₀ .tc) α} {Q : α → sProp 𝕄} (X : S512x1024.Idx → Elt F e) :
    Own c ((M.slice (Rect.unit (s := S2x512x1024) off S1x512x1024.size h) hr).squeeze S512x1024 hq) X
      ⊢ iprop((Own c ((M.slice (Rect.unit (s := S2x512x1024) off S1x512x1024.size h) hr).squeeze S512x1024 hq) X
          -∗ WP c (k (shapeCast S1x512x1024 X shapeCasts_S512x1024_S1x512x1024)) Q)
        -∗ WP c (.op (.load M (Rect.unit (s := S2x512x1024) off S1x512x1024.size h).toLoadRect hl) k) Q) :=
  load_slot hr hq c X shapeCasts_S512x1024_S1x512x1024 shapeCasts_S1x512x1024_S512x1024

/-- A load of a slot of S3x2x512x1024, its value in the shape it is loaded at. -/
theorem recv4 (c : Dev nD) {e : EltTy} {M : Memref sig .tc .vmem S3x2x512x1024 e} {off : Fin 4 → Nat} {h : ∀ a, off a + S1x1x512x1024.size a ≤ S3x2x512x1024.size a}
    {hr : ∀ a, (Rect.unit (s := S3x2x512x1024) off S1x1x512x1024.size h).stride a = 1} {hq : (Rect.unit (s := S3x2x512x1024) off S1x1x512x1024.size h).shape.Squeezes S512x1024}
    {hl : M.view.LoadsAt (Rect.unit (s := S3x2x512x1024) off S1x1x512x1024.size h).toLoadRect} {α : Type}
    {k : (S1x1x512x1024.Idx → Elt F e) → Prog (TpuEff nD τ sig (Elt F) Λ₀ .tc) α} {Q : α → sProp 𝕄} (X : S512x1024.Idx → Elt F e) :
    Own c ((M.slice (Rect.unit (s := S3x2x512x1024) off S1x1x512x1024.size h) hr).squeeze S512x1024 hq) X
      ⊢ iprop((Own c ((M.slice (Rect.unit (s := S3x2x512x1024) off S1x1x512x1024.size h) hr).squeeze S512x1024 hq) X
          -∗ WP c (k (shapeCast S1x1x512x1024 X casts4)) Q)
        -∗ WP c (.op (.load M (Rect.unit (s := S3x2x512x1024) off S1x1x512x1024.size h).toLoadRect hl) k) Q) :=
  load_slot hr hq c X casts4 shapeCasts_S1x1x512x1024_S512x1024

end Cert.Ring
-- ==== Proof.Facts.lean ====
/-
# The twelve copies and the twenty-four waits

Each copy and each wait of the body, with its cells, contents and what is still owed: the two general rules at
each of their uses.
-/
module

public import proofs.«01_k».proof.Proof.Vals

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

/-- What is owed after `n` copies. -/
abbrev owd (c : Dev nD) (n : ℕ) : sProp 𝕄 := owesE c (OwL c (sends.drop n))

/-- What a copy of a slot credits depends on its shape and element type alone. -/
theorem credit8 (v : View sig .tc .vmem S512x1024 .fp8e4m3) : v.dmaCredit = N8 := rfl
theorem credit16 (v : View sig .tc .vmem S512x1024 .bf16) : v.dmaCredit = N16 := rfl
theorem amt8 {n : ℕ} (h : (n - 5) % 6 < 2) : amtD n = N8 := if_pos h
theorem amt16 {n : ℕ} (h : ¬ (n - 5) % 6 < 2) : amtD n = N16 := if_neg h

theorem barPay_prv (c : Dev nD) : barPay (F := F) true (prv c) = slotsR c := by
  show slotsR (nxt (prv c)) = _
  rw [nxt_prv]
theorem barPay_nxt (c : Dev nD) : barPay (F := F) false (nxt c) = slotsL c := by
  show slotsL (prv (nxt c)) = _
  rw [prv_nxt]

theorem drop_step (c : Dev nD) (p : Bool × DmaSem sig) (ps : List (Bool × DmaSem sig)) :
    OwL c (p :: ps) = OwL c ps + tallyAt (dcell (tgt p.1 c) p.2) () (amtD p.2.val) := rfl

theorem land0 (c : Dev nD) : Own (nxt c) (sa b13) (sr0 I c 0) ⊢ payD I 11 (nxt c) := by
  show _ ⊢ Own (nxt c) (sa b13) (sr0 I (prv (nxt c)) 0)
  rw [prv_nxt]

theorem send0 (c n : Dev nD) (hn : n = nxt c) {S R : DmaSem sig} (hS : S = 5) (hR : R = 11)
    {hsc : (sa b13 : Memref sig (Dev.tc n : Thread nD τ).2.kind .vmem S512x1024 .fp8e4m3).view.ref.isScScratch = false}
    {hsrc : (sa b11).view.WordExact} {hdst : (sa b13).view.WordExact}
    {hsem : DmaTarget.Typed .vmem (.dma R) (.remote (Dev.tc n : Thread nD τ) (sa b13) (.dma S) hsc)}
    {α : Type} {Q : α → sProp 𝕄} {k : PUnit → Prog (TpuEff nD τ sig (Elt F) Λ₀ .tc) α} :
    iprop(Recs I K ∗ owd c 0 ∗ Own c (sa b11) (sr0 I c 0) ∗ Perm c (nxt c) (sa b13) 5 11)
      ⊢ iprop(((owd c 1 ∗ Wt c 5) -∗ WP c (k ⟨⟩) Q)
          -∗ WP c (.op (.enqueueDma (sa b11) (.remote (Dev.tc n : Thread nD τ) (sa b13) (.dma S) hsc) (.dma R) hsrc hdst hsem) k) Q) :=
  send_step I K c n (nxt c) hn 5 11 S R hS hR (by decide) (by decide) (Topo.routes_iff.mpr (.inr (.inl ⟨rfl, rfl⟩))) (src := sa b11) (dst := sa b13) (sr0 I c 0)
    ((credit8 _).trans (amt8 (by decide)).symm) ((amt8 (n := 5) (by decide)).trans (amt8 (n := 11) (by decide)).symm) .rfl (land0 I c)
    (OwL c (sends.drop 1)) (drop_step c _ _)

theorem land1 (c : Dev nD) : Own (prv c) (sa b14) (sl0 I c 0) ⊢ payD I 23 (prv c) := by
  show _ ⊢ Own (prv c) (sa b14) (sl0 I (nxt (prv c)) 0)
  rw [nxt_prv]

theorem send1 (c n : Dev nD) (hn : n = prv c) {S R : DmaSem sig} (hS : S = 17) (hR : R = 23)
    {hsc : (sa b14 : Memref sig (Dev.tc n : Thread nD τ).2.kind .vmem S512x1024 .fp8e4m3).view.ref.isScScratch = false}
    {hsrc : (sa b12).view.WordExact} {hdst : (sa b14).view.WordExact}
    {hsem : DmaTarget.Typed .vmem (.dma R) (.remote (Dev.tc n : Thread nD τ) (sa b14) (.dma S) hsc)}
    {α : Type} {Q : α → sProp 𝕄} {k : PUnit → Prog (TpuEff nD τ sig (Elt F) Λ₀ .tc) α} :
    iprop(Recs I K ∗ owd c 1 ∗ Own c (sa b12) (sl0 I c 0) ∗ Perm c (prv c) (sa b14) 17 23)
      ⊢ iprop(((owd c 2 ∗ Wt c 17) -∗ WP c (k ⟨⟩) Q)
          -∗ WP c (.op (.enqueueDma (sa b12) (.remote (Dev.tc n : Thread nD τ) (sa b14) (.dma S) hsc) (.dma R) hsrc hdst hsem) k) Q) :=
  send_step I K c n (prv c) hn 17 23 S R hS hR (by decide) (by decide) (Topo.routes_iff.mpr (.inr (.inl ⟨rfl, rfl⟩))) (src := sa b12) (dst := sa b14) (sl0 I c 0)
    ((credit8 _).trans (amt8 (by decide)).symm) ((amt8 (n := 17) (by decide)).trans (amt8 (n := 23) (by decide)).symm) .rfl (land1 I c)
    (OwL c (sends.drop 2)) (drop_step c _ _)

theorem land2 (c : Dev nD) : Own (nxt c) (sb b13) (sr0 I c 1) ⊢ payD I 12 (nxt c) := by
  show _ ⊢ Own (nxt c) (sb b13) (sr0 I (prv (nxt c)) 1)
  rw [prv_nxt]

theorem send2 (c n : Dev nD) (hn : n = nxt c) {S R : DmaSem sig} (hS : S = 6) (hR : R = 12)
    {hsc : (sb b13 : Memref sig (Dev.tc n : Thread nD τ).2.kind .vmem S512x1024 .fp8e4m3).view.ref.isScScratch = false}
    {hsrc : (sb b11).view.WordExact} {hdst : (sb b13).view.WordExact}
    {hsem : DmaTarget.Typed .vmem (.dma R) (.remote (Dev.tc n : Thread nD τ) (sb b13) (.dma S) hsc)}
    {α : Type} {Q : α → sProp 𝕄} {k : PUnit → Prog (TpuEff nD τ sig (Elt F) Λ₀ .tc) α} :
    iprop(Recs I K ∗ owd c 2 ∗ Own c (sb b11) (sr0 I c 1) ∗ Perm c (nxt c) (sb b13) 6 12)
      ⊢ iprop(((owd c 3 ∗ Wt c 6) -∗ WP c (k ⟨⟩) Q)
          -∗ WP c (.op (.enqueueDma (sb b11) (.remote (Dev.tc n : Thread nD τ) (sb b13) (.dma S) hsc) (.dma R) hsrc hdst hsem) k) Q) :=
  send_step I K c n (nxt c) hn 6 12 S R hS hR (by decide) (by decide) (Topo.routes_iff.mpr (.inr (.inl ⟨rfl, rfl⟩))) (src := sb b11) (dst := sb b13) (sr0 I c 1)
    ((credit8 _).trans (amt8 (by decide)).symm) ((amt8 (n := 6) (by decide)).trans (amt8 (n := 12) (by decide)).symm) .rfl (land2 I c)
    (OwL c (sends.drop 3)) (drop_step c _ _)

theorem land3 (c : Dev nD) : Own (prv c) (sb b14) (sl0 I c 1) ⊢ payD I 24 (prv c) := by
  show _ ⊢ Own (prv c) (sb b14) (sl0 I (nxt (prv c)) 1)
  rw [nxt_prv]

theorem send3 (c n : Dev nD) (hn : n = prv c) {S R : DmaSem sig} (hS : S = 18) (hR : R = 24)
    {hsc : (sb b14 : Memref sig (Dev.tc n : Thread nD τ).2.kind .vmem S512x1024 .fp8e4m3).view.ref.isScScratch = false}
    {hsrc : (sb b12).view.WordExact} {hdst : (sb b14).view.WordExact}
    {hsem : DmaTarget.Typed .vmem (.dma R) (.remote (Dev.tc n : Thread nD τ) (sb b14) (.dma S) hsc)}
    {α : Type} {Q : α → sProp 𝕄} {k : PUnit → Prog (TpuEff nD τ sig (Elt F) Λ₀ .tc) α} :
    iprop(Recs I K ∗ owd c 3 ∗ Own c (sb b12) (sl0 I c 1) ∗ Perm c (prv c) (sb b14) 18 24)
      ⊢ iprop(((owd c 4 ∗ Wt c 18) -∗ WP c (k ⟨⟩) Q)
          -∗ WP c (.op (.enqueueDma (sb b12) (.remote (Dev.tc n : Thread nD τ) (sb b14) (.dma S) hsc) (.dma R) hsrc hdst hsem) k) Q) :=
  send_step I K c n (prv c) hn 18 24 S R hS hR (by decide) (by decide) (Topo.routes_iff.mpr (.inr (.inl ⟨rfl, rfl⟩))) (src := sb b12) (dst := sb b14) (sl0 I c 1)
    ((credit8 _).trans (amt8 (by decide)).symm) ((amt8 (n := 18) (by decide)).trans (amt8 (n := 24) (by decide)).symm) .rfl (land3 I c)
    (OwL c (sends.drop 4)) (drop_step c _ _)

theorem land4 (c : Dev nD) : Own (nxt c) (q10 b9) (sr1 I c 0) ⊢ payD I 13 (nxt c) := by
  show _ ⊢ Own (nxt c) (q10 b9) (sr1 I (prv (nxt c)) 0)
  rw [prv_nxt]

theorem send4 (c n : Dev nD) (hn : n = nxt c) {S R : DmaSem sig} (hS : S = 7) (hR : R = 13)
    {hsc : (q10 b9 : Memref sig (Dev.tc n : Thread nD τ).2.kind .vmem S512x1024 .bf16).view.ref.isScScratch = false}
    {hsrc : (sa b7).view.WordExact} {hdst : (q10 b9).view.WordExact}
    {hsem : DmaTarget.Typed .vmem (.dma R) (.remote (Dev.tc n : Thread nD τ) (q10 b9) (.dma S) hsc)}
    {α : Type} {Q : α → sProp 𝕄} {k : PUnit → Prog (TpuEff nD τ sig (Elt F) Λ₀ .tc) α} :
    iprop(Recs I K ∗ owd c 4 ∗ Own c (sa b7) (sr1 I c 0) ∗ Perm c (nxt c) (q10 b9) 7 13)
      ⊢ iprop(((owd c 5 ∗ Wt c 7) -∗ WP c (k ⟨⟩) Q)
          -∗ WP c (.op (.enqueueDma (sa b7) (.remote (Dev.tc n : Thread nD τ) (q10 b9) (.dma S) hsc) (.dma R) hsrc hdst hsem) k) Q) :=
  send_step I K c n (nxt c) hn 7 13 S R hS hR (by decide) (by decide) (Topo.routes_iff.mpr (.inr (.inl ⟨rfl, rfl⟩))) (src := sa b7) (dst := q10 b9) (sr1 I c 0)
    ((credit16 _).trans (amt16 (by decide)).symm) ((amt16 (n := 7) (by decide)).trans (amt16 (n := 13) (by decide)).symm) .rfl (land4 I c)
    (OwL c (sends.drop 5)) (drop_step c _ _)

theorem land5 (c : Dev nD) : Own (prv c) (q10 b10) (sl1 I c 0) ⊢ payD I 25 (prv c) := by
  show _ ⊢ Own (prv c) (q10 b10) (sl1 I (nxt (prv c)) 0)
  rw [nxt_prv]

theorem send5 (c n : Dev nD) (hn : n = prv c) {S R : DmaSem sig} (hS : S = 19) (hR : R = 25)
    {hsc : (q10 b10 : Memref sig (Dev.tc n : Thread nD τ).2.kind .vmem S512x1024 .bf16).view.ref.isScScratch = false}
    {hsrc : (sa b8).view.WordExact} {hdst : (q10 b10).view.WordExact}
    {hsem : DmaTarget.Typed .vmem (.dma R) (.remote (Dev.tc n : Thread nD τ) (q10 b10) (.dma S) hsc)}
    {α : Type} {Q : α → sProp 𝕄} {k : PUnit → Prog (TpuEff nD τ sig (Elt F) Λ₀ .tc) α} :
    iprop(Recs I K ∗ owd c 5 ∗ Own c (sa b8) (sl1 I c 0) ∗ Perm c (prv c) (q10 b10) 19 25)
      ⊢ iprop(((owd c 6 ∗ Wt c 19) -∗ WP c (k ⟨⟩) Q)
          -∗ WP c (.op (.enqueueDma (sa b8) (.remote (Dev.tc n : Thread nD τ) (q10 b10) (.dma S) hsc) (.dma R) hsrc hdst hsem) k) Q) :=
  send_step I K c n (prv c) hn 19 25 S R hS hR (by decide) (by decide) (Topo.routes_iff.mpr (.inr (.inl ⟨rfl, rfl⟩))) (src := sa b8) (dst := q10 b10) (sl1 I c 0)
    ((credit16 _).trans (amt16 (by decide)).symm) ((amt16 (n := 19) (by decide)).trans (amt16 (n := 25) (by decide)).symm) .rfl (land5 I c)
    (OwL c (sends.drop 6)) (drop_step c _ _)

theorem land6 (c : Dev nD) : Own (nxt c) (q11 b9) (sr1 I c 1) ⊢ payD I 14 (nxt c) := by
  show _ ⊢ Own (nxt c) (q11 b9) (sr1 I (prv (nxt c)) 1)
  rw [prv_nxt]

theorem send6 (c n : Dev nD) (hn : n = nxt c) {S R : DmaSem sig} (hS : S = 8) (hR : R = 14)
    {hsc : (q11 b9 : Memref sig (Dev.tc n : Thread nD τ).2.kind .vmem S512x1024 .bf16).view.ref.isScScratch = false}
    {hsrc : (sb b7).view.WordExact} {hdst : (q11 b9).view.WordExact}
    {hsem : DmaTarget.Typed .vmem (.dma R) (.remote (Dev.tc n : Thread nD τ) (q11 b9) (.dma S) hsc)}
    {α : Type} {Q : α → sProp 𝕄} {k : PUnit → Prog (TpuEff nD τ sig (Elt F) Λ₀ .tc) α} :
    iprop(Recs I K ∗ owd c 6 ∗ Own c (sb b7) (sr1 I c 1) ∗ Perm c (nxt c) (q11 b9) 8 14)
      ⊢ iprop(((owd c 7 ∗ Wt c 8) -∗ WP c (k ⟨⟩) Q)
          -∗ WP c (.op (.enqueueDma (sb b7) (.remote (Dev.tc n : Thread nD τ) (q11 b9) (.dma S) hsc) (.dma R) hsrc hdst hsem) k) Q) :=
  send_step I K c n (nxt c) hn 8 14 S R hS hR (by decide) (by decide) (Topo.routes_iff.mpr (.inr (.inl ⟨rfl, rfl⟩))) (src := sb b7) (dst := q11 b9) (sr1 I c 1)
    ((credit16 _).trans (amt16 (by decide)).symm) ((amt16 (n := 8) (by decide)).trans (amt16 (n := 14) (by decide)).symm) .rfl (land6 I c)
    (OwL c (sends.drop 7)) (drop_step c _ _)

theorem land7 (c : Dev nD) : Own (prv c) (q11 b10) (sl1 I c 1) ⊢ payD I 26 (prv c) := by
  show _ ⊢ Own (prv c) (q11 b10) (sl1 I (nxt (prv c)) 1)
  rw [nxt_prv]

theorem send7 (c n : Dev nD) (hn : n = prv c) {S R : DmaSem sig} (hS : S = 20) (hR : R = 26)
    {hsc : (q11 b10 : Memref sig (Dev.tc n : Thread nD τ).2.kind .vmem S512x1024 .bf16).view.ref.isScScratch = false}
    {hsrc : (sb b8).view.WordExact} {hdst : (q11 b10).view.WordExact}
    {hsem : DmaTarget.Typed .vmem (.dma R) (.remote (Dev.tc n : Thread nD τ) (q11 b10) (.dma S) hsc)}
    {α : Type} {Q : α → sProp 𝕄} {k : PUnit → Prog (TpuEff nD τ sig (Elt F) Λ₀ .tc) α} :
    iprop(Recs I K ∗ owd c 7 ∗ Own c (sb b8) (sl1 I c 1) ∗ Perm c (prv c) (q11 b10) 20 26)
      ⊢ iprop(((owd c 8 ∗ Wt c 20) -∗ WP c (k ⟨⟩) Q)
          -∗ WP c (.op (.enqueueDma (sb b8) (.remote (Dev.tc n : Thread nD τ) (q11 b10) (.dma S) hsc) (.dma R) hsrc hdst hsem) k) Q) :=
  send_step I K c n (prv c) hn 20 26 S R hS hR (by decide) (by decide) (Topo.routes_iff.mpr (.inr (.inl ⟨rfl, rfl⟩))) (src := sb b8) (dst := q11 b10) (sl1 I c 1)
    ((credit16 _).trans (amt16 (by decide)).symm) ((amt16 (n := 20) (by decide)).trans (amt16 (n := 26) (by decide)).symm) .rfl (land7 I c)
    (OwL c (sends.drop 8)) (drop_step c _ _)

theorem land8 (c : Dev nD) : Own (nxt c) (q20 b9) (sr2 I c 0) ⊢ payD I 15 (nxt c) := by
  show _ ⊢ Own (nxt c) (q20 b9) (sr2 I (prv (nxt c)) 0)
  rw [prv_nxt]

theorem send8 (c n : Dev nD) (hn : n = nxt c) {S R : DmaSem sig} (hS : S = 9) (hR : R = 15)
    {hsc : (q20 b9 : Memref sig (Dev.tc n : Thread nD τ).2.kind .vmem S512x1024 .bf16).view.ref.isScScratch = false}
    {hsrc : (sa b7).view.WordExact} {hdst : (q20 b9).view.WordExact}
    {hsem : DmaTarget.Typed .vmem (.dma R) (.remote (Dev.tc n : Thread nD τ) (q20 b9) (.dma S) hsc)}
    {α : Type} {Q : α → sProp 𝕄} {k : PUnit → Prog (TpuEff nD τ sig (Elt F) Λ₀ .tc) α} :
    iprop(Recs I K ∗ owd c 8 ∗ Own c (sa b7) (sr2 I c 0) ∗ Perm c (nxt c) (q20 b9) 9 15)
      ⊢ iprop(((owd c 9 ∗ Wt c 9) -∗ WP c (k ⟨⟩) Q)
          -∗ WP c (.op (.enqueueDma (sa b7) (.remote (Dev.tc n : Thread nD τ) (q20 b9) (.dma S) hsc) (.dma R) hsrc hdst hsem) k) Q) :=
  send_step I K c n (nxt c) hn 9 15 S R hS hR (by decide) (by decide) (Topo.routes_iff.mpr (.inr (.inl ⟨rfl, rfl⟩))) (src := sa b7) (dst := q20 b9) (sr2 I c 0)
    ((credit16 _).trans (amt16 (by decide)).symm) ((amt16 (n := 9) (by decide)).trans (amt16 (n := 15) (by decide)).symm) .rfl (land8 I c)
    (OwL c (sends.drop 9)) (drop_step c _ _)

theorem land9 (c : Dev nD) : Own (prv c) (q20 b10) (sl2 I c 0) ⊢ payD I 27 (prv c) := by
  show _ ⊢ Own (prv c) (q20 b10) (sl2 I (nxt (prv c)) 0)
  rw [nxt_prv]

theorem send9 (c n : Dev nD) (hn : n = prv c) {S R : DmaSem sig} (hS : S = 21) (hR : R = 27)
    {hsc : (q20 b10 : Memref sig (Dev.tc n : Thread nD τ).2.kind .vmem S512x1024 .bf16).view.ref.isScScratch = false}
    {hsrc : (sa b8).view.WordExact} {hdst : (q20 b10).view.WordExact}
    {hsem : DmaTarget.Typed .vmem (.dma R) (.remote (Dev.tc n : Thread nD τ) (q20 b10) (.dma S) hsc)}
    {α : Type} {Q : α → sProp 𝕄} {k : PUnit → Prog (TpuEff nD τ sig (Elt F) Λ₀ .tc) α} :
    iprop(Recs I K ∗ owd c 9 ∗ Own c (sa b8) (sl2 I c 0) ∗ Perm c (prv c) (q20 b10) 21 27)
      ⊢ iprop(((owd c 10 ∗ Wt c 21) -∗ WP c (k ⟨⟩) Q)
          -∗ WP c (.op (.enqueueDma (sa b8) (.remote (Dev.tc n : Thread nD τ) (q20 b10) (.dma S) hsc) (.dma R) hsrc hdst hsem) k) Q) :=
  send_step I K c n (prv c) hn 21 27 S R hS hR (by decide) (by decide) (Topo.routes_iff.mpr (.inr (.inl ⟨rfl, rfl⟩))) (src := sa b8) (dst := q20 b10) (sl2 I c 0)
    ((credit16 _).trans (amt16 (by decide)).symm) ((amt16 (n := 21) (by decide)).trans (amt16 (n := 27) (by decide)).symm) .rfl (land9 I c)
    (OwL c (sends.drop 10)) (drop_step c _ _)

theorem land10 (c : Dev nD) : Own (nxt c) (q21 b9) (sr2 I c 1) ⊢ payD I 16 (nxt c) := by
  show _ ⊢ Own (nxt c) (q21 b9) (sr2 I (prv (nxt c)) 1)
  rw [prv_nxt]

theorem send10 (c n : Dev nD) (hn : n = nxt c) {S R : DmaSem sig} (hS : S = 10) (hR : R = 16)
    {hsc : (q21 b9 : Memref sig (Dev.tc n : Thread nD τ).2.kind .vmem S512x1024 .bf16).view.ref.isScScratch = false}
    {hsrc : (sb b7).view.WordExact} {hdst : (q21 b9).view.WordExact}
    {hsem : DmaTarget.Typed .vmem (.dma R) (.remote (Dev.tc n : Thread nD τ) (q21 b9) (.dma S) hsc)}
    {α : Type} {Q : α → sProp 𝕄} {k : PUnit → Prog (TpuEff nD τ sig (Elt F) Λ₀ .tc) α} :
    iprop(Recs I K ∗ owd c 10 ∗ Own c (sb b7) (sr2 I c 1) ∗ Perm c (nxt c) (q21 b9) 10 16)
      ⊢ iprop(((owd c 11 ∗ Wt c 10) -∗ WP c (k ⟨⟩) Q)
          -∗ WP c (.op (.enqueueDma (sb b7) (.remote (Dev.tc n : Thread nD τ) (q21 b9) (.dma S) hsc) (.dma R) hsrc hdst hsem) k) Q) :=
  send_step I K c n (nxt c) hn 10 16 S R hS hR (by decide) (by decide) (Topo.routes_iff.mpr (.inr (.inl ⟨rfl, rfl⟩))) (src := sb b7) (dst := q21 b9) (sr2 I c 1)
    ((credit16 _).trans (amt16 (by decide)).symm) ((amt16 (n := 10) (by decide)).trans (amt16 (n := 16) (by decide)).symm) .rfl (land10 I c)
    (OwL c (sends.drop 11)) (drop_step c _ _)

theorem land11 (c : Dev nD) : Own (prv c) (q21 b10) (sl2 I c 1) ⊢ payD I 28 (prv c) := by
  show _ ⊢ Own (prv c) (q21 b10) (sl2 I (nxt (prv c)) 1)
  rw [nxt_prv]

theorem send11 (c n : Dev nD) (hn : n = prv c) {S R : DmaSem sig} (hS : S = 22) (hR : R = 28)
    {hsc : (q21 b10 : Memref sig (Dev.tc n : Thread nD τ).2.kind .vmem S512x1024 .bf16).view.ref.isScScratch = false}
    {hsrc : (sb b8).view.WordExact} {hdst : (q21 b10).view.WordExact}
    {hsem : DmaTarget.Typed .vmem (.dma R) (.remote (Dev.tc n : Thread nD τ) (q21 b10) (.dma S) hsc)}
    {α : Type} {Q : α → sProp 𝕄} {k : PUnit → Prog (TpuEff nD τ sig (Elt F) Λ₀ .tc) α} :
    iprop(Recs I K ∗ owd c 11 ∗ Own c (sb b8) (sl2 I c 1) ∗ Perm c (prv c) (q21 b10) 22 28)
      ⊢ iprop(((owd c 12 ∗ Wt c 22) -∗ WP c (k ⟨⟩) Q)
          -∗ WP c (.op (.enqueueDma (sb b8) (.remote (Dev.tc n : Thread nD τ) (q21 b10) (.dma S) hsc) (.dma R) hsrc hdst hsem) k) Q) :=
  send_step I K c n (prv c) hn 22 28 S R hS hR (by decide) (by decide) (Topo.routes_iff.mpr (.inr (.inl ⟨rfl, rfl⟩))) (src := sb b8) (dst := q21 b10) (sl2 I c 1)
    ((credit16 _).trans (amt16 (by decide)).symm) ((amt16 (n := 22) (by decide)).trans (amt16 (n := 28) (by decide)).symm) .rfl (land11 I c)
    (OwL c (sends.drop 12)) (drop_step c _ _)

theorem wait11 (c : Dev nD) {S : DmaSem sig} (hS : S = 11) {cs cs' : Space} {s s' : Shape} {e e' : EltTy}
    {src : Memref sig .tc cs s e} {dst : Memref sig .tc cs' s' e'} {h₁ : src.view.WordExact} {h₂ : dst.view.WordExact}
    (hN : dst.view.dmaCredit = amtD 11) {α : Type} {Q : α → sProp 𝕄} {k : PUnit → Prog (TpuEff nD τ sig (Elt F) Λ₀ .tc) α} :
    iprop(Recs I K ∗ owd c 4 ∗ Wt c 11)
      ⊢ iprop(((owd c 4 ∗ semVal (dcell c 11) 0 ∗ Own c (sa b13) (sr0 I (prv c) 0)) -∗ WP c (k ⟨⟩) Q)
          -∗ WP c (.op (.waitDma2 S src dst h₁ h₂) k) Q) :=
  wait_step I K c 11 S hS (by decide) hN (sends.drop 4) (by decide)

theorem wait5 (c : Dev nD) {S : DmaSem sig} (hS : S = 5) {cs cs' : Space} {s s' : Shape} {e e' : EltTy}
    {src : Memref sig .tc cs s e} {dst : Memref sig .tc cs' s' e'} {h₁ : src.view.WordExact} {h₂ : dst.view.WordExact}
    (hN : dst.view.dmaCredit = amtD 5) {α : Type} {Q : α → sProp 𝕄} {k : PUnit → Prog (TpuEff nD τ sig (Elt F) Λ₀ .tc) α} :
    iprop(Recs I K ∗ owd c 4 ∗ Wt c 5)
      ⊢ iprop(((owd c 4 ∗ semVal (dcell c 5) 0 ∗ OwnE c (sa b11)) -∗ WP c (k ⟨⟩) Q)
          -∗ WP c (.op (.waitDma2 S src dst h₁ h₂) k) Q) :=
  wait_step I K c 5 S hS (by decide) hN (sends.drop 4) (by decide)

theorem wait23 (c : Dev nD) {S : DmaSem sig} (hS : S = 23) {cs cs' : Space} {s s' : Shape} {e e' : EltTy}
    {src : Memref sig .tc cs s e} {dst : Memref sig .tc cs' s' e'} {h₁ : src.view.WordExact} {h₂ : dst.view.WordExact}
    (hN : dst.view.dmaCredit = amtD 23) {α : Type} {Q : α → sProp 𝕄} {k : PUnit → Prog (TpuEff nD τ sig (Elt F) Λ₀ .tc) α} :
    iprop(Recs I K ∗ owd c 5 ∗ Wt c 23)
      ⊢ iprop(((owd c 5 ∗ semVal (dcell c 23) 0 ∗ Own c (sa b14) (sl0 I (nxt c) 0)) -∗ WP c (k ⟨⟩) Q)
          -∗ WP c (.op (.waitDma2 S src dst h₁ h₂) k) Q) :=
  wait_step I K c 23 S hS (by decide) hN (sends.drop 5) (by decide)

theorem wait17 (c : Dev nD) {S : DmaSem sig} (hS : S = 17) {cs cs' : Space} {s s' : Shape} {e e' : EltTy}
    {src : Memref sig .tc cs s e} {dst : Memref sig .tc cs' s' e'} {h₁ : src.view.WordExact} {h₂ : dst.view.WordExact}
    (hN : dst.view.dmaCredit = amtD 17) {α : Type} {Q : α → sProp 𝕄} {k : PUnit → Prog (TpuEff nD τ sig (Elt F) Λ₀ .tc) α} :
    iprop(Recs I K ∗ owd c 5 ∗ Wt c 17)
      ⊢ iprop(((owd c 5 ∗ semVal (dcell c 17) 0 ∗ OwnE c (sa b12)) -∗ WP c (k ⟨⟩) Q)
          -∗ WP c (.op (.waitDma2 S src dst h₁ h₂) k) Q) :=
  wait_step I K c 17 S hS (by decide) hN (sends.drop 5) (by decide)

theorem wait12 (c : Dev nD) {S : DmaSem sig} (hS : S = 12) {cs cs' : Space} {s s' : Shape} {e e' : EltTy}
    {src : Memref sig .tc cs s e} {dst : Memref sig .tc cs' s' e'} {h₁ : src.view.WordExact} {h₂ : dst.view.WordExact}
    (hN : dst.view.dmaCredit = amtD 12) {α : Type} {Q : α → sProp 𝕄} {k : PUnit → Prog (TpuEff nD τ sig (Elt F) Λ₀ .tc) α} :
    iprop(Recs I K ∗ owd c 6 ∗ Wt c 12)
      ⊢ iprop(((owd c 6 ∗ semVal (dcell c 12) 0 ∗ Own c (sb b13) (sr0 I (prv c) 1)) -∗ WP c (k ⟨⟩) Q)
          -∗ WP c (.op (.waitDma2 S src dst h₁ h₂) k) Q) :=
  wait_step I K c 12 S hS (by decide) hN (sends.drop 6) (by decide)

theorem wait6 (c : Dev nD) {S : DmaSem sig} (hS : S = 6) {cs cs' : Space} {s s' : Shape} {e e' : EltTy}
    {src : Memref sig .tc cs s e} {dst : Memref sig .tc cs' s' e'} {h₁ : src.view.WordExact} {h₂ : dst.view.WordExact}
    (hN : dst.view.dmaCredit = amtD 6) {α : Type} {Q : α → sProp 𝕄} {k : PUnit → Prog (TpuEff nD τ sig (Elt F) Λ₀ .tc) α} :
    iprop(Recs I K ∗ owd c 6 ∗ Wt c 6)
      ⊢ iprop(((owd c 6 ∗ semVal (dcell c 6) 0 ∗ OwnE c (sb b11)) -∗ WP c (k ⟨⟩) Q)
          -∗ WP c (.op (.waitDma2 S src dst h₁ h₂) k) Q) :=
  wait_step I K c 6 S hS (by decide) hN (sends.drop 6) (by decide)

theorem wait24 (c : Dev nD) {S : DmaSem sig} (hS : S = 24) {cs cs' : Space} {s s' : Shape} {e e' : EltTy}
    {src : Memref sig .tc cs s e} {dst : Memref sig .tc cs' s' e'} {h₁ : src.view.WordExact} {h₂ : dst.view.WordExact}
    (hN : dst.view.dmaCredit = amtD 24) {α : Type} {Q : α → sProp 𝕄} {k : PUnit → Prog (TpuEff nD τ sig (Elt F) Λ₀ .tc) α} :
    iprop(Recs I K ∗ owd c 7 ∗ Wt c 24)
      ⊢ iprop(((owd c 7 ∗ semVal (dcell c 24) 0 ∗ Own c (sb b14) (sl0 I (nxt c) 1)) -∗ WP c (k ⟨⟩) Q)
          -∗ WP c (.op (.waitDma2 S src dst h₁ h₂) k) Q) :=
  wait_step I K c 24 S hS (by decide) hN (sends.drop 7) (by decide)

theorem wait18 (c : Dev nD) {S : DmaSem sig} (hS : S = 18) {cs cs' : Space} {s s' : Shape} {e e' : EltTy}
    {src : Memref sig .tc cs s e} {dst : Memref sig .tc cs' s' e'} {h₁ : src.view.WordExact} {h₂ : dst.view.WordExact}
    (hN : dst.view.dmaCredit = amtD 18) {α : Type} {Q : α → sProp 𝕄} {k : PUnit → Prog (TpuEff nD τ sig (Elt F) Λ₀ .tc) α} :
    iprop(Recs I K ∗ owd c 7 ∗ Wt c 18)
      ⊢ iprop(((owd c 7 ∗ semVal (dcell c 18) 0 ∗ OwnE c (sb b12)) -∗ WP c (k ⟨⟩) Q)
          -∗ WP c (.op (.waitDma2 S src dst h₁ h₂) k) Q) :=
  wait_step I K c 18 S hS (by decide) hN (sends.drop 7) (by decide)

theorem wait13 (c : Dev nD) {S : DmaSem sig} (hS : S = 13) {cs cs' : Space} {s s' : Shape} {e e' : EltTy}
    {src : Memref sig .tc cs s e} {dst : Memref sig .tc cs' s' e'} {h₁ : src.view.WordExact} {h₂ : dst.view.WordExact}
    (hN : dst.view.dmaCredit = amtD 13) {α : Type} {Q : α → sProp 𝕄} {k : PUnit → Prog (TpuEff nD τ sig (Elt F) Λ₀ .tc) α} :
    iprop(Recs I K ∗ owd c 8 ∗ Wt c 13)
      ⊢ iprop(((owd c 8 ∗ semVal (dcell c 13) 0 ∗ Own c (q10 b9) (sr1 I (prv c) 0)) -∗ WP c (k ⟨⟩) Q)
          -∗ WP c (.op (.waitDma2 S src dst h₁ h₂) k) Q) :=
  wait_step I K c 13 S hS (by decide) hN (sends.drop 8) (by decide)

theorem wait7 (c : Dev nD) {S : DmaSem sig} (hS : S = 7) {cs cs' : Space} {s s' : Shape} {e e' : EltTy}
    {src : Memref sig .tc cs s e} {dst : Memref sig .tc cs' s' e'} {h₁ : src.view.WordExact} {h₂ : dst.view.WordExact}
    (hN : dst.view.dmaCredit = amtD 7) {α : Type} {Q : α → sProp 𝕄} {k : PUnit → Prog (TpuEff nD τ sig (Elt F) Λ₀ .tc) α} :
    iprop(Recs I K ∗ owd c 8 ∗ Wt c 7)
      ⊢ iprop(((owd c 8 ∗ semVal (dcell c 7) 0 ∗ OwnE c (sa b7)) -∗ WP c (k ⟨⟩) Q)
          -∗ WP c (.op (.waitDma2 S src dst h₁ h₂) k) Q) :=
  wait_step I K c 7 S hS (by decide) hN (sends.drop 8) (by decide)

theorem wait25 (c : Dev nD) {S : DmaSem sig} (hS : S = 25) {cs cs' : Space} {s s' : Shape} {e e' : EltTy}
    {src : Memref sig .tc cs s e} {dst : Memref sig .tc cs' s' e'} {h₁ : src.view.WordExact} {h₂ : dst.view.WordExact}
    (hN : dst.view.dmaCredit = amtD 25) {α : Type} {Q : α → sProp 𝕄} {k : PUnit → Prog (TpuEff nD τ sig (Elt F) Λ₀ .tc) α} :
    iprop(Recs I K ∗ owd c 9 ∗ Wt c 25)
      ⊢ iprop(((owd c 9 ∗ semVal (dcell c 25) 0 ∗ Own c (q10 b10) (sl1 I (nxt c) 0)) -∗ WP c (k ⟨⟩) Q)
          -∗ WP c (.op (.waitDma2 S src dst h₁ h₂) k) Q) :=
  wait_step I K c 25 S hS (by decide) hN (sends.drop 9) (by decide)

theorem wait19 (c : Dev nD) {S : DmaSem sig} (hS : S = 19) {cs cs' : Space} {s s' : Shape} {e e' : EltTy}
    {src : Memref sig .tc cs s e} {dst : Memref sig .tc cs' s' e'} {h₁ : src.view.WordExact} {h₂ : dst.view.WordExact}
    (hN : dst.view.dmaCredit = amtD 19) {α : Type} {Q : α → sProp 𝕄} {k : PUnit → Prog (TpuEff nD τ sig (Elt F) Λ₀ .tc) α} :
    iprop(Recs I K ∗ owd c 9 ∗ Wt c 19)
      ⊢ iprop(((owd c 9 ∗ semVal (dcell c 19) 0 ∗ OwnE c (sa b8)) -∗ WP c (k ⟨⟩) Q)
          -∗ WP c (.op (.waitDma2 S src dst h₁ h₂) k) Q) :=
  wait_step I K c 19 S hS (by decide) hN (sends.drop 9) (by decide)

theorem wait14 (c : Dev nD) {S : DmaSem sig} (hS : S = 14) {cs cs' : Space} {s s' : Shape} {e e' : EltTy}
    {src : Memref sig .tc cs s e} {dst : Memref sig .tc cs' s' e'} {h₁ : src.view.WordExact} {h₂ : dst.view.WordExact}
    (hN : dst.view.dmaCredit = amtD 14) {α : Type} {Q : α → sProp 𝕄} {k : PUnit → Prog (TpuEff nD τ sig (Elt F) Λ₀ .tc) α} :
    iprop(Recs I K ∗ owd c 10 ∗ Wt c 14)
      ⊢ iprop(((owd c 10 ∗ semVal (dcell c 14) 0 ∗ Own c (q11 b9) (sr1 I (prv c) 1)) -∗ WP c (k ⟨⟩) Q)
          -∗ WP c (.op (.waitDma2 S src dst h₁ h₂) k) Q) :=
  wait_step I K c 14 S hS (by decide) hN (sends.drop 10) (by decide)

theorem wait8 (c : Dev nD) {S : DmaSem sig} (hS : S = 8) {cs cs' : Space} {s s' : Shape} {e e' : EltTy}
    {src : Memref sig .tc cs s e} {dst : Memref sig .tc cs' s' e'} {h₁ : src.view.WordExact} {h₂ : dst.view.WordExact}
    (hN : dst.view.dmaCredit = amtD 8) {α : Type} {Q : α → sProp 𝕄} {k : PUnit → Prog (TpuEff nD τ sig (Elt F) Λ₀ .tc) α} :
    iprop(Recs I K ∗ owd c 10 ∗ Wt c 8)
      ⊢ iprop(((owd c 10 ∗ semVal (dcell c 8) 0 ∗ OwnE c (sb b7)) -∗ WP c (k ⟨⟩) Q)
          -∗ WP c (.op (.waitDma2 S src dst h₁ h₂) k) Q) :=
  wait_step I K c 8 S hS (by decide) hN (sends.drop 10) (by decide)

theorem wait26 (c : Dev nD) {S : DmaSem sig} (hS : S = 26) {cs cs' : Space} {s s' : Shape} {e e' : EltTy}
    {src : Memref sig .tc cs s e} {dst : Memref sig .tc cs' s' e'} {h₁ : src.view.WordExact} {h₂ : dst.view.WordExact}
    (hN : dst.view.dmaCredit = amtD 26) {α : Type} {Q : α → sProp 𝕄} {k : PUnit → Prog (TpuEff nD τ sig (Elt F) Λ₀ .tc) α} :
    iprop(Recs I K ∗ owd c 11 ∗ Wt c 26)
      ⊢ iprop(((owd c 11 ∗ semVal (dcell c 26) 0 ∗ Own c (q11 b10) (sl1 I (nxt c) 1)) -∗ WP c (k ⟨⟩) Q)
          -∗ WP c (.op (.waitDma2 S src dst h₁ h₂) k) Q) :=
  wait_step I K c 26 S hS (by decide) hN (sends.drop 11) (by decide)

theorem wait20 (c : Dev nD) {S : DmaSem sig} (hS : S = 20) {cs cs' : Space} {s s' : Shape} {e e' : EltTy}
    {src : Memref sig .tc cs s e} {dst : Memref sig .tc cs' s' e'} {h₁ : src.view.WordExact} {h₂ : dst.view.WordExact}
    (hN : dst.view.dmaCredit = amtD 20) {α : Type} {Q : α → sProp 𝕄} {k : PUnit → Prog (TpuEff nD τ sig (Elt F) Λ₀ .tc) α} :
    iprop(Recs I K ∗ owd c 11 ∗ Wt c 20)
      ⊢ iprop(((owd c 11 ∗ semVal (dcell c 20) 0 ∗ OwnE c (sb b8)) -∗ WP c (k ⟨⟩) Q)
          -∗ WP c (.op (.waitDma2 S src dst h₁ h₂) k) Q) :=
  wait_step I K c 20 S hS (by decide) hN (sends.drop 11) (by decide)

theorem wait15 (c : Dev nD) {S : DmaSem sig} (hS : S = 15) {cs cs' : Space} {s s' : Shape} {e e' : EltTy}
    {src : Memref sig .tc cs s e} {dst : Memref sig .tc cs' s' e'} {h₁ : src.view.WordExact} {h₂ : dst.view.WordExact}
    (hN : dst.view.dmaCredit = amtD 15) {α : Type} {Q : α → sProp 𝕄} {k : PUnit → Prog (TpuEff nD τ sig (Elt F) Λ₀ .tc) α} :
    iprop(Recs I K ∗ owd c 12 ∗ Wt c 15)
      ⊢ iprop(((owd c 12 ∗ semVal (dcell c 15) 0 ∗ Own c (q20 b9) (sr2 I (prv c) 0)) -∗ WP c (k ⟨⟩) Q)
          -∗ WP c (.op (.waitDma2 S src dst h₁ h₂) k) Q) :=
  wait_step I K c 15 S hS (by decide) hN (sends.drop 12) (by decide)

theorem wait9 (c : Dev nD) {S : DmaSem sig} (hS : S = 9) {cs cs' : Space} {s s' : Shape} {e e' : EltTy}
    {src : Memref sig .tc cs s e} {dst : Memref sig .tc cs' s' e'} {h₁ : src.view.WordExact} {h₂ : dst.view.WordExact}
    (hN : dst.view.dmaCredit = amtD 9) {α : Type} {Q : α → sProp 𝕄} {k : PUnit → Prog (TpuEff nD τ sig (Elt F) Λ₀ .tc) α} :
    iprop(Recs I K ∗ owd c 12 ∗ Wt c 9)
      ⊢ iprop(((owd c 12 ∗ semVal (dcell c 9) 0 ∗ OwnE c (sa b7)) -∗ WP c (k ⟨⟩) Q)
          -∗ WP c (.op (.waitDma2 S src dst h₁ h₂) k) Q) :=
  wait_step I K c 9 S hS (by decide) hN (sends.drop 12) (by decide)

theorem wait27 (c : Dev nD) {S : DmaSem sig} (hS : S = 27) {cs cs' : Space} {s s' : Shape} {e e' : EltTy}
    {src : Memref sig .tc cs s e} {dst : Memref sig .tc cs' s' e'} {h₁ : src.view.WordExact} {h₂ : dst.view.WordExact}
    (hN : dst.view.dmaCredit = amtD 27) {α : Type} {Q : α → sProp 𝕄} {k : PUnit → Prog (TpuEff nD τ sig (Elt F) Λ₀ .tc) α} :
    iprop(Recs I K ∗ owd c 12 ∗ Wt c 27)
      ⊢ iprop(((owd c 12 ∗ semVal (dcell c 27) 0 ∗ Own c (q20 b10) (sl2 I (nxt c) 0)) -∗ WP c (k ⟨⟩) Q)
          -∗ WP c (.op (.waitDma2 S src dst h₁ h₂) k) Q) :=
  wait_step I K c 27 S hS (by decide) hN (sends.drop 12) (by decide)

theorem wait21 (c : Dev nD) {S : DmaSem sig} (hS : S = 21) {cs cs' : Space} {s s' : Shape} {e e' : EltTy}
    {src : Memref sig .tc cs s e} {dst : Memref sig .tc cs' s' e'} {h₁ : src.view.WordExact} {h₂ : dst.view.WordExact}
    (hN : dst.view.dmaCredit = amtD 21) {α : Type} {Q : α → sProp 𝕄} {k : PUnit → Prog (TpuEff nD τ sig (Elt F) Λ₀ .tc) α} :
    iprop(Recs I K ∗ owd c 12 ∗ Wt c 21)
      ⊢ iprop(((owd c 12 ∗ semVal (dcell c 21) 0 ∗ OwnE c (sa b8)) -∗ WP c (k ⟨⟩) Q)
          -∗ WP c (.op (.waitDma2 S src dst h₁ h₂) k) Q) :=
  wait_step I K c 21 S hS (by decide) hN (sends.drop 12) (by decide)

theorem wait16 (c : Dev nD) {S : DmaSem sig} (hS : S = 16) {cs cs' : Space} {s s' : Shape} {e e' : EltTy}
    {src : Memref sig .tc cs s e} {dst : Memref sig .tc cs' s' e'} {h₁ : src.view.WordExact} {h₂ : dst.view.WordExact}
    (hN : dst.view.dmaCredit = amtD 16) {α : Type} {Q : α → sProp 𝕄} {k : PUnit → Prog (TpuEff nD τ sig (Elt F) Λ₀ .tc) α} :
    iprop(Recs I K ∗ owd c 12 ∗ Wt c 16)
      ⊢ iprop(((owd c 12 ∗ semVal (dcell c 16) 0 ∗ Own c (q21 b9) (sr2 I (prv c) 1)) -∗ WP c (k ⟨⟩) Q)
          -∗ WP c (.op (.waitDma2 S src dst h₁ h₂) k) Q) :=
  wait_step I K c 16 S hS (by decide) hN (sends.drop 12) (by decide)

theorem wait10 (c : Dev nD) {S : DmaSem sig} (hS : S = 10) {cs cs' : Space} {s s' : Shape} {e e' : EltTy}
    {src : Memref sig .tc cs s e} {dst : Memref sig .tc cs' s' e'} {h₁ : src.view.WordExact} {h₂ : dst.view.WordExact}
    (hN : dst.view.dmaCredit = amtD 10) {α : Type} {Q : α → sProp 𝕄} {k : PUnit → Prog (TpuEff nD τ sig (Elt F) Λ₀ .tc) α} :
    iprop(Recs I K ∗ owd c 12 ∗ Wt c 10)
      ⊢ iprop(((owd c 12 ∗ semVal (dcell c 10) 0 ∗ OwnE c (sb b7)) -∗ WP c (k ⟨⟩) Q)
          -∗ WP c (.op (.waitDma2 S src dst h₁ h₂) k) Q) :=
  wait_step I K c 10 S hS (by decide) hN (sends.drop 12) (by decide)

theorem wait28 (c : Dev nD) {S : DmaSem sig} (hS : S = 28) {cs cs' : Space} {s s' : Shape} {e e' : EltTy}
    {src : Memref sig .tc cs s e} {dst : Memref sig .tc cs' s' e'} {h₁ : src.view.WordExact} {h₂ : dst.view.WordExact}
    (hN : dst.view.dmaCredit = amtD 28) {α : Type} {Q : α → sProp 𝕄} {k : PUnit → Prog (TpuEff nD τ sig (Elt F) Λ₀ .tc) α} :
    iprop(Recs I K ∗ owd c 12 ∗ Wt c 28)
      ⊢ iprop(((owd c 12 ∗ semVal (dcell c 28) 0 ∗ Own c (q21 b10) (sl2 I (nxt c) 1)) -∗ WP c (k ⟨⟩) Q)
          -∗ WP c (.op (.waitDma2 S src dst h₁ h₂) k) Q) :=
  wait_step I K c 28 S hS (by decide) hN (sends.drop 12) (by decide)

theorem wait22 (c : Dev nD) {S : DmaSem sig} (hS : S = 22) {cs cs' : Space} {s s' : Shape} {e e' : EltTy}
    {src : Memref sig .tc cs s e} {dst : Memref sig .tc cs' s' e'} {h₁ : src.view.WordExact} {h₂ : dst.view.WordExact}
    (hN : dst.view.dmaCredit = amtD 22) {α : Type} {Q : α → sProp 𝕄} {k : PUnit → Prog (TpuEff nD τ sig (Elt F) Λ₀ .tc) α} :
    iprop(Recs I K ∗ owd c 12 ∗ Wt c 22)
      ⊢ iprop(((owd c 12 ∗ semVal (dcell c 22) 0 ∗ OwnE c (sb b8)) -∗ WP c (k ⟨⟩) Q)
          -∗ WP c (.op (.waitDma2 S src dst h₁ h₂) k) Q) :=
  wait_step I K c 22 S hS (by decide) hN (sends.drop 12) (by decide)

end Cert.Ring
-- ==== Proof.PartsA.lean ====
/-
# The body's parts: to the first hop

What each part of the body needs, and what it leaves, the rest of the program abstract.
-/
module

public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

theorem part1 (c : Dev nD)  {α : Type} {Q : α → sProp 𝕄} {k : _ → Prog (TpuEff nD τ sig (Elt F) Λ₀ .tc) α} :
    iprop(Recs I K ∗ owesE c (O₀ c) ∗ dutyTok ER (barCell (prv c)) 0 true ∗ slotsR c ∗ dutyTok ER (barCell (nxt c)) 0 false ∗ slotsL c ∗ Own c b0 (I.x c))
      ⊢ iprop((∀ (v2 v14 v25 : BitVec 32), (owd c 0 ∗ Own c b0 (I.x c)) -∗ WP c (k ⟨c, v2, v14, v25, (SemArray.scalar (sig.barrier 0 rfl)), I.x c⟩) Q)
        -∗ WP c (k0_part1 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13  >>= k) Q) := by
  rw [k0_part1_eq_skeleton]; unfold k0_part1_skel
  simp only [semSignalWord, semWaitWord, smemLoad, smemLoadElt, Prog.lift, Prog.bind_op, Prog.bind_ret, Prog.pure_eq_ret, wp_deviceId]
  iintro ⟨#HR, HO, HtP, HsR, HtN, HsL, HIX⟩ Hk
  iapply (signal_step I K c _ (prv c) (dev1_eq c) true (by decide) (OwL c sends + tallyAt (barCell (nxt c)) () 1) rfl) $$ [HO HtP HsR]
  · isplitr; · iexact HR
    isplitl [HO]; · iexact HO
    isplitl [HtP]; · iexact HtP
    rw [barPay_prv]; iexact HsR
  iintro HO
  iapply (signal_step I K c _ (nxt c) (dev2_eq c) false (by decide) (OwL c sends) rfl) $$ [HO HtN HsL]
  · isplitr; · iexact HR
    isplitl [HO]; · iexact HO
    isplitl [HtN]; · iexact HtN
    rw [barPay_nxt]; iexact HsL
  iintro HO
  iapply (load_all c (M := b0) hz2) $$ HIX; iintro HIX
  iapply Hk $$ %_ %_ %_
  isplitl [HO]; · iexact HO
  iexact HIX

theorem part2 (c : Dev nD) {v2 : BitVec 32} {α : Type} {Q : α → sProp 𝕄} {k : _ → Prog (TpuEff nD τ sig (Elt F) Λ₀ .tc) α} :
    iprop(Recs I K ∗ OwnE c b5 ∗ Own c b1 (I.w c) ∗ OwnE c b6)
      ⊢ iprop((∀ (v52 v63 : BitVec 32), (Own c b5 (I.x c) ∗ Own c b1 (I.w c) ∗ Own c b6 (I.w c)) -∗ WP c (k ⟨v52, v63⟩) Q)
        -∗ WP c (k0_part2 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v2 (I.x c) >>= k) Q) := by
  rw [k0_part2_eq_skeleton]; unfold k0_part2_skel
  simp only [semSignalWord, semWaitWord, smemLoad, smemLoadElt, Prog.lift, Prog.bind_op, Prog.bind_ret, Prog.pure_eq_ret, wp_deviceId]
  iintro ⟨#HR, HX, HIW, HW⟩ Hk
  iapply (load_any c (M := b5)) $$ HX; iintro %_ HX
  iapply (all_put c (M := b5) hz2 (I.x c) (v3 _)) $$ HX; iintro HX
  iapply (load_all c (M := b1) hz2) $$ HIW; iintro HIW
  iapply (load_any c (M := b6)) $$ HW; iintro %_ HW
  iapply (all_put c (M := b6) hz2 (I.w c) (v4 _)) $$ HW; iintro HW
  iapply Hk $$ %_ %_
  isplitl [HX]; · iexact HX
  isplitl [HIW]; · iexact HIW
  iexact HW

theorem part3 (c : Dev nD) {v25 v63 : BitVec 32} {α : Type} {Q : α → sProp 𝕄} {k : _ → Prog (TpuEff nD τ sig (Elt F) Λ₀ .tc) α} :
    iprop(Recs I K ∗ Own c b5 (I.x c) ∗ Own c b6 (I.w c) ∗ OwnE c (sa b11) ∗ OwnE c (sa b12) ∗ owd c 0 ∗ cred (tallyAt (barCell c) () 2) ∗ atPos ER (barCell c) 0 ∅ 0)
      ⊢ iprop(((Own c b5 (I.x c) ∗ Own c b6 (I.w c) ∗ Own c (sa b11) (sr0 I c 0) ∗ Own c (sa b12) (sl0 I c 0) ∗ owd c 0 ∗ semVal (barCell c) 0 ∗ slotsL (prv c) ∗ slotsR (nxt c)) -∗ WP c (k ⟨⟩) Q)
        -∗ WP c (k0_part3 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v25 (SemArray.scalar (sig.barrier 0 rfl)) v63 >>= k) Q) := by
  rw [k0_part3_eq_skeleton]; unfold k0_part3_skel
  simp only [semSignalWord, semWaitWord, smemLoad, smemLoadElt, Prog.lift, Prog.bind_op, Prog.bind_ret, Prog.pure_eq_ret, wp_deviceId]
  iintro ⟨#HR, HX, HW, Hsa_b11, Hsa_b12, HO, HcB, HaB⟩ Hk
  iapply (load_own c (M := b5) (I.x c)) $$ HX; iintro HX
  iapply (load_own c (M := b6) (I.w c)) $$ HW; iintro HW
  iapply (slot_any c (M := b11) shapeCasts_S512x1024_S1x512x1024 shapeCasts_S1x512x1024_S512x1024) $$ Hsa_b11
  iintro %_ Hsa_b11
  iapply (slot_put c (M := b11) shapeCasts_S1x512x1024_S512x1024 _ rfl) $$ Hsa_b11; iintro Hsa_b11
  rw [sv5]
  ihave Hsa_b11 : Own c (sa b11) (sr0 I c 0) $$ [Hsa_b11]; · iexact Hsa_b11
  iapply (load_own c (M := b5) (I.x c)) $$ HX; iintro HX
  iapply (load_own c (M := b6) (I.w c)) $$ HW; iintro HW
  iapply (slot_any c (M := b12) shapeCasts_S512x1024_S1x512x1024 shapeCasts_S1x512x1024_S512x1024) $$ Hsa_b12
  iintro %_ Hsa_b12
  iapply (slot_put c (M := b12) shapeCasts_S1x512x1024_S512x1024 _ rfl) $$ Hsa_b12; iintro Hsa_b12
  rw [sv6]
  ihave Hsa_b12 : Own c (sa b12) (sl0 I c 0) $$ [Hsa_b12]; · iexact Hsa_b12
  iapply (barrier_step I K c (by decide)) $$ [HO HcB HaB]
  · isplitr; · iexact HR
    isplitl [HO]; · iexact HO
    isplitl [HcB]; · iexact HcB
    iexact HaB
  iintro ⟨HO, HZB, HgL, HgR⟩
  iapply Hk
  isplitl [HX]; · iexact HX
  isplitl [HW]; · iexact HW
  isplitl [Hsa_b11]; · iexact Hsa_b11
  isplitl [Hsa_b12]; · iexact Hsa_b12
  isplitl [HO]; · iexact HO
  isplitl [HZB]; · iexact HZB
  isplitl [HgL]; · iexact HgL
  iexact HgR

theorem part4 (c : Dev nD) {v14 v52 v63 : BitVec 32} {α : Type} {Q : α → sProp 𝕄} {k : _ → Prog (TpuEff nD τ sig (Elt F) Λ₀ .tc) α} :
    iprop(Recs I K ∗ owd c 0 ∗ Own c (sa b11) (sr0 I c 0) ∗ Perm c (nxt c) (sa b13) 5 11 ∗ Own c (sa b12) (sl0 I c 0) ∗ Perm c (prv c) (sa b14) 17 23 ∗ Own c b5 (I.x c) ∗ Own c b6 (I.w c) ∗ OwnE c (sb b11))
      ⊢ iprop(((owd c 2 ∗ Wt c 5 ∗ Wt c 17 ∗ Own c b5 (I.x c) ∗ Own c b6 (I.w c) ∗ Own c (sb b11) (sr0 I c 1)) -∗ WP c (k (sl0 I c 1)) Q)
        -∗ WP c (k0_part4 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 v52 v63 >>= k) Q) := by
  rw [k0_part4_eq_skeleton]; unfold k0_part4_skel
  simp only [semSignalWord, semWaitWord, smemLoad, smemLoadElt, Prog.lift, Prog.bind_op, Prog.bind_ret, Prog.pure_eq_ret, wp_deviceId]
  iintro ⟨#HR, HO, Hsa_b11, HP0, Hsa_b12, HP1, HX, HW, Hsb_b11⟩ Hk
  iapply (send0 I K c _ (dev3_eq c) rfl rfl) $$ [HO Hsa_b11 HP0]
  · isplitr; · iexact HR
    isplitl [HO]; · iexact HO
    isplitl [Hsa_b11]; · iexact Hsa_b11
    iexact HP0
  iintro ⟨HO, HW5⟩
  iapply (send1 I K c _ (dev4_eq c) rfl rfl) $$ [HO Hsa_b12 HP1]
  · isplitr; · iexact HR
    isplitl [HO]; · iexact HO
    isplitl [Hsa_b12]; · iexact Hsa_b12
    iexact HP1
  iintro ⟨HO, HW17⟩
  iapply (load_own c (M := b5) (I.x c)) $$ HX; iintro HX
  iapply (load_own c (M := b6) (I.w c)) $$ HW; iintro HW
  iapply (slot_any c (M := b11) shapeCasts_S512x1024_S1x512x1024 shapeCasts_S1x512x1024_S512x1024) $$ Hsb_b11
  iintro %_ Hsb_b11
  iapply (slot_put c (M := b11) shapeCasts_S1x512x1024_S512x1024 _ rfl) $$ Hsb_b11; iintro Hsb_b11
  rw [sv7]
  ihave Hsb_b11 : Own c (sb b11) (sr0 I c 1) $$ [Hsb_b11]; · iexact Hsb_b11
  iapply (load_own c (M := b5) (I.x c)) $$ HX; iintro HX
  iapply (load_own c (M := b6) (I.w c)) $$ HW; iintro HW
  iapply Hk
  isplitl [HO]; · iexact HO
  isplitl [HW5]; · iexact HW5
  isplitl [HW17]; · iexact HW17
  isplitl [HX]; · iexact HX
  isplitl [HW]; · iexact HW
  iexact Hsb_b11

theorem part5 (c : Dev nD) {v2 v14 v25 : BitVec 32} {α : Type} {Q : α → sProp 𝕄} {k : _ → Prog (TpuEff nD τ sig (Elt F) Λ₀ .tc) α} :
    iprop(Recs I K ∗ OwnE c (sb b12) ∗ owd c 2 ∗ Own c (sb b11) (sr0 I c 1) ∗ Perm c (nxt c) (sb b13) 6 12 ∗ Perm c (prv c) (sb b14) 18 24)
      ⊢ iprop((∀ (v146 c4 : BitVec 32) (v147 : BitVec 1) (c1 : BitVec 32), (owd c 4 ∗ Wt c 6 ∗ Wt c 18) -∗ WP c (k ⟨v146, c4, v147, c1⟩) Q)
        -∗ WP c (k0_part5 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v2 v14 v25 (sl0 I c 1) >>= k) Q) := by
  rw [k0_part5_eq_skeleton]; unfold k0_part5_skel
  simp only [semSignalWord, semWaitWord, smemLoad, smemLoadElt, Prog.lift, Prog.bind_op, Prog.bind_ret, Prog.pure_eq_ret, wp_deviceId]
  iintro ⟨#HR, Hsb_b12, HO, Hsb_b11, HP2, HP3⟩ Hk
  iapply (slot_any c (M := b12) shapeCasts_S512x1024_S1x512x1024 shapeCasts_S1x512x1024_S512x1024) $$ Hsb_b12
  iintro %_ Hsb_b12
  iapply (slot_put c (M := b12) shapeCasts_S1x512x1024_S512x1024 _ rfl) $$ Hsb_b12; iintro Hsb_b12
  rw [sv9]
  ihave Hsb_b12 : Own c (sb b12) (sl0 I c 1) $$ [Hsb_b12]; · iexact Hsb_b12
  iapply (send2 I K c _ (dev5_eq c) rfl rfl) $$ [HO Hsb_b11 HP2]
  · isplitr; · iexact HR
    isplitl [HO]; · iexact HO
    isplitl [Hsb_b11]; · iexact Hsb_b11
    iexact HP2
  iintro ⟨HO, HW6⟩
  iapply (send3 I K c _ (dev6_eq c) rfl rfl) $$ [HO Hsb_b12 HP3]
  · isplitr; · iexact HR
    isplitl [HO]; · iexact HO
    isplitl [Hsb_b12]; · iexact Hsb_b12
    iexact HP3
  iintro ⟨HO, HW18⟩
  iapply Hk $$ %_ %_ %_ %_
  isplitl [HO]; · iexact HO
  isplitl [HW6]; · iexact HW6
  iexact HW18

end Cert.Ring
-- ==== Proof.PartsB.lean ====
/-
# The body's parts: the first hop's sums

What each part of the body needs, and what it leaves, the rest of the program abstract.
-/
module

public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

theorem part6 (c : Dev nD) {v2 v146 c4 : BitVec 32} {v147 : BitVec 1} {c1 : BitVec 32} {α : Type} {Q : α → sProp 𝕄} {k : _ → Prog (TpuEff nD τ sig (Elt F) Λ₀ .tc) α} :
    iprop(Recs I K ∗ Own c b5 (I.x c) ∗ Own c b6 (I.w c))
      ⊢ iprop((∀ (v168 v182 : BitVec 32), (Own c b5 (I.x c) ∗ Own c b6 (I.w c)) -∗ WP c (k ⟨v168, mR I c 0 0, mR I c 0 1, v182⟩) Q)
        -∗ WP c (k0_part6 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v2 v146 c4 v147 c1 >>= k) Q) := by
  rw [k0_part6_eq_skeleton]; unfold k0_part6_skel
  simp only [semSignalWord, semWaitWord, smemLoad, smemLoadElt, Prog.lift, Prog.bind_op, Prog.bind_ret, Prog.pure_eq_ret, wp_deviceId]
  iintro ⟨#HR, HX, HW⟩ Hk
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply Hk $$ %_ %_
  isplitl [HX]; · iexact HX
  iexact HW

theorem part7 (c : Dev nD) {v25 v168 v182 : BitVec 32} {α : Type} {Q : α → sProp 𝕄} {k : _ → Prog (TpuEff nD τ sig (Elt F) Λ₀ .tc) α} :
    iprop(Recs I K ∗ Own c b5 (I.x c) ∗ Own c b6 (I.w c) ∗ owd c 4 ∗ Wt c 11 ∗ Wt c 5)
      ⊢ iprop(((Own c b5 (I.x c) ∗ Own c b6 (I.w c) ∗ owd c 4 ∗ semVal (dcell c 11) 0 ∗ Own c (sa b13) (sr0 I (prv c) 0) ∗ semVal (dcell c 5) 0 ∗ OwnE c (sa b11)) -∗ WP c (k ⟨mL I c 0 0, mL I c 0 1⟩) Q)
        -∗ WP c (k0_part7 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v25 v168 v182 >>= k) Q) := by
  rw [k0_part7_eq_skeleton]; unfold k0_part7_skel
  simp only [semSignalWord, semWaitWord, smemLoad, smemLoadElt, Prog.lift, Prog.bind_op, Prog.bind_ret, Prog.pure_eq_ret, wp_deviceId]
  iintro ⟨#HR, HX, HW, HO, HW11, HW5⟩ Hk
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply (wait11 I K c rfl ((credit8 _).trans (amt8 (by decide)).symm)) $$ [HO HW11]
  · isplitr; · iexact HR
    isplitl [HO]; · iexact HO
    iexact HW11
  iintro ⟨HO, HZ11, Hsa_b13⟩
  iapply (wait5 I K c rfl ((credit8 _).trans (amt8 (by decide)).symm)) $$ [HO HW5]
  · isplitr; · iexact HR
    isplitl [HO]; · iexact HO
    iexact HW5
  iintro ⟨HO, HZ5, Hsa_b11⟩
  iapply Hk
  isplitl [HX]; · iexact HX
  isplitl [HW]; · iexact HW
  isplitl [HO]; · iexact HO
  isplitl [HZ11]; · iexact HZ11
  isplitl [Hsa_b13]; · iexact Hsa_b13
  isplitl [HZ5]; · iexact HZ5
  iexact Hsa_b11

theorem part8 (c : Dev nD) {v14 v25 : BitVec 32} {α : Type} {Q : α → sProp 𝕄} {k : _ → Prog (TpuEff nD τ sig (Elt F) Λ₀ .tc) α} :
    iprop(Recs I K ∗ Own c (sa b13) (sr0 I (prv c) 0) ∗ OwnE c (sa b7) ∗ owd c 4 ∗ Perm c (nxt c) (q10 b9) 7 13 ∗ Wt c 23)
      ⊢ iprop(((Own c (sa b13) (sr0 I (prv c) 0) ∗ owd c 5 ∗ Wt c 7 ∗ semVal (dcell c 23) 0 ∗ Own c (sa b14) (sl0 I (nxt c) 0)) -∗ WP c (k ⟨⟩) Q)
        -∗ WP c (k0_part8 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 v25 (mR I c 0 0) >>= k) Q) := by
  rw [k0_part8_eq_skeleton]; unfold k0_part8_skel
  simp only [semSignalWord, semWaitWord, smemLoad, smemLoadElt, Prog.lift, Prog.bind_op, Prog.bind_ret, Prog.pure_eq_ret, wp_deviceId]
  iintro ⟨#HR, Hsa_b13, Hsa_b7, HO, HP4, HW23⟩ Hk
  iapply (recv3 c (hq := squeezes_S1x512x1024_S512x1024) (M := b13) (sr0 I (prv c) 0)) $$ Hsa_b13; iintro Hsa_b13
  iapply (slot_any c (M := b7) shapeCasts_S512x1024_S1x512x1024 shapeCasts_S1x512x1024_S512x1024) $$ Hsa_b7
  iintro %_ Hsa_b7
  iapply (slot_put c (M := b7) shapeCasts_S1x512x1024_S512x1024 _ rfl) $$ Hsa_b7; iintro Hsa_b7
  rw [sv14]
  ihave Hsa_b7 : Own c (sa b7) (sr1 I c 0) $$ [Hsa_b7]; · iexact Hsa_b7
  iapply (send4 I K c _ (dev7_eq c) rfl rfl) $$ [HO Hsa_b7 HP4]
  · isplitr; · iexact HR
    isplitl [HO]; · iexact HO
    isplitl [Hsa_b7]; · iexact Hsa_b7
    iexact HP4
  iintro ⟨HO, HW7⟩
  iapply (wait23 I K c rfl ((credit8 _).trans (amt8 (by decide)).symm)) $$ [HO HW23]
  · isplitr; · iexact HR
    isplitl [HO]; · iexact HO
    iexact HW23
  iintro ⟨HO, HZ23, Hsa_b14⟩
  iapply Hk
  isplitl [Hsa_b13]; · iexact Hsa_b13
  isplitl [HO]; · iexact HO
  isplitl [HW7]; · iexact HW7
  isplitl [HZ23]; · iexact HZ23
  iexact Hsa_b14

theorem part9 (c : Dev nD) {v14 : BitVec 32} {α : Type} {Q : α → sProp 𝕄} {k : _ → Prog (TpuEff nD τ sig (Elt F) Λ₀ .tc) α} :
    iprop(Recs I K ∗ owd c 5 ∗ Wt c 17 ∗ Own c (sa b14) (sl0 I (nxt c) 0) ∗ OwnE c (sa b8) ∗ Perm c (prv c) (q10 b10) 19 25)
      ⊢ iprop(((owd c 6 ∗ semVal (dcell c 17) 0 ∗ OwnE c (sa b12) ∗ Own c (sa b14) (sl0 I (nxt c) 0) ∗ Wt c 19) -∗ WP c (k ⟨⟩) Q)
        -∗ WP c (k0_part9 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 (mL I c 0 0) >>= k) Q) := by
  rw [k0_part9_eq_skeleton]; unfold k0_part9_skel
  simp only [semSignalWord, semWaitWord, smemLoad, smemLoadElt, Prog.lift, Prog.bind_op, Prog.bind_ret, Prog.pure_eq_ret, wp_deviceId]
  iintro ⟨#HR, HO, HW17, Hsa_b14, Hsa_b8, HP5⟩ Hk
  iapply (wait17 I K c rfl ((credit8 _).trans (amt8 (by decide)).symm)) $$ [HO HW17]
  · isplitr; · iexact HR
    isplitl [HO]; · iexact HO
    iexact HW17
  iintro ⟨HO, HZ17, Hsa_b12⟩
  iapply (recv3 c (hq := squeezes_S1x512x1024_S512x1024) (M := b14) (sl0 I (nxt c) 0)) $$ Hsa_b14; iintro Hsa_b14
  iapply (slot_any c (M := b8) shapeCasts_S512x1024_S1x512x1024 shapeCasts_S1x512x1024_S512x1024) $$ Hsa_b8
  iintro %_ Hsa_b8
  iapply (slot_put c (M := b8) shapeCasts_S1x512x1024_S512x1024 _ rfl) $$ Hsa_b8; iintro Hsa_b8
  rw [sv15]
  ihave Hsa_b8 : Own c (sa b8) (sl1 I c 0) $$ [Hsa_b8]; · iexact Hsa_b8
  iapply (send5 I K c _ (dev8_eq c) rfl rfl) $$ [HO Hsa_b8 HP5]
  · isplitr; · iexact HR
    isplitl [HO]; · iexact HO
    isplitl [Hsa_b8]; · iexact Hsa_b8
    iexact HP5
  iintro ⟨HO, HW19⟩
  iapply Hk
  isplitl [HO]; · iexact HO
  isplitl [HZ17]; · iexact HZ17
  isplitl [Hsa_b12]; · iexact Hsa_b12
  isplitl [Hsa_b14]; · iexact Hsa_b14
  iexact HW19

theorem part10 (c : Dev nD) {v25 : BitVec 32} {α : Type} {Q : α → sProp 𝕄} {k : _ → Prog (TpuEff nD τ sig (Elt F) Λ₀ .tc) α} :
    iprop(Recs I K ∗ owd c 6 ∗ Wt c 12 ∗ Wt c 6 ∗ OwnE c (sb b7))
      ⊢ iprop((∀ (v279 c0 : BitVec 32), (owd c 6 ∗ semVal (dcell c 12) 0 ∗ Own c (sb b13) (sr0 I (prv c) 1) ∗ semVal (dcell c 6) 0 ∗ OwnE c (sb b11) ∗ Own c (sb b7) (sr1 I c 1)) -∗ WP c (k ⟨v279, c0⟩) Q)
        -∗ WP c (k0_part10 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v25 (mR I c 0 1) >>= k) Q) := by
  rw [k0_part10_eq_skeleton]; unfold k0_part10_skel
  simp only [semSignalWord, semWaitWord, smemLoad, smemLoadElt, Prog.lift, Prog.bind_op, Prog.bind_ret, Prog.pure_eq_ret, wp_deviceId]
  iintro ⟨#HR, HO, HW12, HW6, Hsb_b7⟩ Hk
  iapply (wait12 I K c rfl ((credit8 _).trans (amt8 (by decide)).symm)) $$ [HO HW12]
  · isplitr; · iexact HR
    isplitl [HO]; · iexact HO
    iexact HW12
  iintro ⟨HO, HZ12, Hsb_b13⟩
  iapply (wait6 I K c rfl ((credit8 _).trans (amt8 (by decide)).symm)) $$ [HO HW6]
  · isplitr; · iexact HR
    isplitl [HO]; · iexact HO
    iexact HW6
  iintro ⟨HO, HZ6, Hsb_b11⟩
  iapply (recv3 c (hq := squeezes_S1x512x1024_S512x1024) (M := b13) (sr0 I (prv c) 1)) $$ Hsb_b13; iintro Hsb_b13
  iapply (slot_any c (M := b7) shapeCasts_S512x1024_S1x512x1024 shapeCasts_S1x512x1024_S512x1024) $$ Hsb_b7
  iintro %_ Hsb_b7
  iapply (slot_put c (M := b7) shapeCasts_S1x512x1024_S512x1024 _ rfl) $$ Hsb_b7; iintro Hsb_b7
  rw [sv16]
  ihave Hsb_b7 : Own c (sb b7) (sr1 I c 1) $$ [Hsb_b7]; · iexact Hsb_b7
  iapply Hk $$ %_ %_
  isplitl [HO]; · iexact HO
  isplitl [HZ12]; · iexact HZ12
  isplitl [Hsb_b13]; · iexact Hsb_b13
  isplitl [HZ6]; · iexact HZ6
  isplitl [Hsb_b11]; · iexact Hsb_b11
  iexact Hsb_b7

theorem part11 (c : Dev nD) {v14 v279 c0 : BitVec 32} {α : Type} {Q : α → sProp 𝕄} {k : _ → Prog (TpuEff nD τ sig (Elt F) Λ₀ .tc) α} :
    iprop(Recs I K ∗ owd c 6 ∗ Own c (sb b7) (sr1 I c 1) ∗ Perm c (nxt c) (q11 b9) 8 14 ∗ Wt c 24 ∗ Wt c 18)
      ⊢ iprop(((owd c 7 ∗ Wt c 8 ∗ semVal (dcell c 24) 0 ∗ Own c (sb b14) (sl0 I (nxt c) 1) ∗ semVal (dcell c 18) 0 ∗ OwnE c (sb b12)) -∗ WP c (k (addf (mL I c 0 1) (extf .f32 (sl0 I (nxt c) 1) bitsLt_fp8e4m3_f32))) Q)
        -∗ WP c (k0_part11 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 (mL I c 0 1) v279 c0 >>= k) Q) := by
  rw [k0_part11_eq_skeleton]; unfold k0_part11_skel
  simp only [semSignalWord, semWaitWord, smemLoad, smemLoadElt, Prog.lift, Prog.bind_op, Prog.bind_ret, Prog.pure_eq_ret, wp_deviceId]
  iintro ⟨#HR, HO, Hsb_b7, HP6, HW24, HW18⟩ Hk
  iapply (send6 I K c _ (dev9_eq c) rfl rfl) $$ [HO Hsb_b7 HP6]
  · isplitr; · iexact HR
    isplitl [HO]; · iexact HO
    isplitl [Hsb_b7]; · iexact Hsb_b7
    iexact HP6
  iintro ⟨HO, HW8⟩
  iapply (wait24 I K c rfl ((credit8 _).trans (amt8 (by decide)).symm)) $$ [HO HW24]
  · isplitr; · iexact HR
    isplitl [HO]; · iexact HO
    iexact HW24
  iintro ⟨HO, HZ24, Hsb_b14⟩
  iapply (wait18 I K c rfl ((credit8 _).trans (amt8 (by decide)).symm)) $$ [HO HW18]
  · isplitr; · iexact HR
    isplitl [HO]; · iexact HO
    iexact HW18
  iintro ⟨HO, HZ18, Hsb_b12⟩
  iapply (recv3 c (hq := squeezes_S1x512x1024_S512x1024) (M := b14) (sl0 I (nxt c) 1)) $$ Hsb_b14; iintro Hsb_b14
  rw [v17]
  iapply Hk
  isplitl [HO]; · iexact HO
  isplitl [HW8]; · iexact HW8
  isplitl [HZ24]; · iexact HZ24
  isplitl [Hsb_b14]; · iexact Hsb_b14
  isplitl [HZ18]; · iexact HZ18
  iexact Hsb_b12

theorem part12 (c : Dev nD) {v2 v14 : BitVec 32} {α : Type} {Q : α → sProp 𝕄} {k : _ → Prog (TpuEff nD τ sig (Elt F) Λ₀ .tc) α} :
    iprop(Recs I K ∗ OwnE c (sb b8) ∗ owd c 7 ∗ Perm c (prv c) (q11 b10) 20 26)
      ⊢ iprop((∀ (v333 v335 c4 c0 : BitVec 32), (owd c 8 ∗ Wt c 20) -∗ WP c (k ⟨v333, v335, c4, c0⟩) Q)
        -∗ WP c (k0_part12 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v2 v14 (addf (mL I c 0 1) (extf .f32 (sl0 I (nxt c) 1) bitsLt_fp8e4m3_f32)) >>= k) Q) := by
  rw [k0_part12_eq_skeleton]; unfold k0_part12_skel
  simp only [semSignalWord, semWaitWord, smemLoad, smemLoadElt, Prog.lift, Prog.bind_op, Prog.bind_ret, Prog.pure_eq_ret, wp_deviceId]
  iintro ⟨#HR, Hsb_b8, HO, HP7⟩ Hk
  iapply (slot_any c (M := b8) shapeCasts_S512x1024_S1x512x1024 shapeCasts_S1x512x1024_S512x1024) $$ Hsb_b8
  iintro %_ Hsb_b8
  iapply (slot_put c (M := b8) shapeCasts_S1x512x1024_S512x1024 _ rfl) $$ Hsb_b8; iintro Hsb_b8
  rw [sv18]
  ihave Hsb_b8 : Own c (sb b8) (sl1 I c 1) $$ [Hsb_b8]; · iexact Hsb_b8
  iapply (send7 I K c _ (dev10_eq c) rfl rfl) $$ [HO Hsb_b8 HP7]
  · isplitr; · iexact HR
    isplitl [HO]; · iexact HO
    isplitl [Hsb_b8]; · iexact Hsb_b8
    iexact HP7
  iintro ⟨HO, HW20⟩
  iapply Hk $$ %_ %_ %_ %_
  isplitl [HO]; · iexact HO
  iexact HW20

end Cert.Ring
-- ==== Proof.PartsC.lean ====
/-
# The body's parts: the second hop's sums

What each part of the body needs, and what it leaves, the rest of the program abstract.
-/
module

public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

theorem part13 (c : Dev nD) {v333 v335 c4 c0 : BitVec 32} {α : Type} {Q : α → sProp 𝕄} {k : _ → Prog (TpuEff nD τ sig (Elt F) Λ₀ .tc) α} :
    iprop(Recs I K ∗ Own c b5 (I.x c) ∗ Own c b6 (I.w c))
      ⊢ iprop(((Own c b5 (I.x c) ∗ Own c b6 (I.w c)) -∗ WP c (k ⟨mR I c 1 0, mR I c 1 1, mL I c 1 0, (rows (I.x c) (k0_off4 c (hop 1) (ofs 1)) (k0_off4_inb c 1 1)), colsR (I.w c)⟩) Q)
        -∗ WP c (k0_part13 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v333 v335 c4 c0 >>= k) Q) := by
  rw [k0_part13_eq_skeleton]; unfold k0_part13_skel
  simp only [semSignalWord, semWaitWord, smemLoad, smemLoadElt, Prog.lift, Prog.bind_op, Prog.bind_ret, Prog.pure_eq_ret, wp_deviceId]
  iintro ⟨#HR, HX, HW⟩ Hk
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply Hk
  isplitl [HX]; · iexact HX
  iexact HW

theorem part14 (c : Dev nD) {v25 : BitVec 32} {α : Type} {Q : α → sProp 𝕄} {k : _ → Prog (TpuEff nD τ sig (Elt F) Λ₀ .tc) α} :
    iprop(Recs I K ∗ owd c 8 ∗ Wt c 13 ∗ Wt c 7)
      ⊢ iprop(((owd c 8 ∗ semVal (dcell c 13) 0 ∗ Own c (q10 b9) (sr1 I (prv c) 0) ∗ semVal (dcell c 7) 0 ∗ Own c (sa b7) (sr2 I c 0)) -∗ WP c (k (mL I c 1 1)) Q)
        -∗ WP c (k0_part14 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v25 (mR I c 1 0) (rows (I.x c) (k0_off4 c (hop 1) (ofs 1)) (k0_off4_inb c 1 1)) (colsR (I.w c)) >>= k) Q) := by
  rw [k0_part14_eq_skeleton]; unfold k0_part14_skel
  simp only [semSignalWord, semWaitWord, smemLoad, smemLoadElt, Prog.lift, Prog.bind_op, Prog.bind_ret, Prog.pure_eq_ret, wp_deviceId]
  iintro ⟨#HR, HO, HW13, HW7⟩ Hk
  iapply (wait13 I K c rfl ((credit16 _).trans (amt16 (by decide)).symm)) $$ [HO HW13]
  · isplitr; · iexact HR
    isplitl [HO]; · iexact HO
    iexact HW13
  iintro ⟨HO, HZ13, Hq10_b9⟩
  iapply (wait7 I K c rfl ((credit16 _).trans (amt16 (by decide)).symm)) $$ [HO HW7]
  · isplitr; · iexact HR
    isplitl [HO]; · iexact HO
    iexact HW7
  iintro ⟨HO, HZ7, Hsa_b7⟩
  iapply (recv4 c (hq := squeezes_S1x1x512x1024_S512x1024) (M := b9) (sr1 I (prv c) 0)) $$ Hq10_b9; iintro Hq10_b9
  iapply (slot_any c (M := b7) shapeCasts_S512x1024_S1x512x1024 shapeCasts_S1x512x1024_S512x1024) $$ Hsa_b7
  iintro %_ Hsa_b7
  iapply (slot_put c (M := b7) shapeCasts_S1x512x1024_S512x1024 _ rfl) $$ Hsa_b7; iintro Hsa_b7
  rw [sv23]
  ihave Hsa_b7 : Own c (sa b7) (sr2 I c 0) $$ [Hsa_b7]; · iexact Hsa_b7
  iapply Hk
  isplitl [HO]; · iexact HO
  isplitl [HZ13]; · iexact HZ13
  isplitl [Hq10_b9]; · iexact Hq10_b9
  isplitl [HZ7]; · iexact HZ7
  iexact Hsa_b7

theorem part15 (c : Dev nD) {v14 v25 : BitVec 32} {α : Type} {Q : α → sProp 𝕄} {k : _ → Prog (TpuEff nD τ sig (Elt F) Λ₀ .tc) α} :
    iprop(Recs I K ∗ owd c 8 ∗ Own c (sa b7) (sr2 I c 0) ∗ Perm c (nxt c) (q20 b9) 9 15 ∗ Wt c 25)
      ⊢ iprop(((owd c 9 ∗ Wt c 9 ∗ semVal (dcell c 25) 0 ∗ Own c (q10 b10) (sl1 I (nxt c) 0)) -∗ WP c (k ⟨⟩) Q)
        -∗ WP c (k0_part15 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 v25 >>= k) Q) := by
  rw [k0_part15_eq_skeleton]; unfold k0_part15_skel
  simp only [semSignalWord, semWaitWord, smemLoad, smemLoadElt, Prog.lift, Prog.bind_op, Prog.bind_ret, Prog.pure_eq_ret, wp_deviceId]
  iintro ⟨#HR, HO, Hsa_b7, HP8, HW25⟩ Hk
  iapply (send8 I K c _ (dev11_eq c) rfl rfl) $$ [HO Hsa_b7 HP8]
  · isplitr; · iexact HR
    isplitl [HO]; · iexact HO
    isplitl [Hsa_b7]; · iexact Hsa_b7
    iexact HP8
  iintro ⟨HO, HW9⟩
  iapply (wait25 I K c rfl ((credit16 _).trans (amt16 (by decide)).symm)) $$ [HO HW25]
  · isplitr; · iexact HR
    isplitl [HO]; · iexact HO
    iexact HW25
  iintro ⟨HO, HZ25, Hq10_b10⟩
  iapply Hk
  isplitl [HO]; · iexact HO
  isplitl [HW9]; · iexact HW9
  isplitl [HZ25]; · iexact HZ25
  iexact Hq10_b10

theorem part16 (c : Dev nD) {v14 v25 : BitVec 32} {α : Type} {Q : α → sProp 𝕄} {k : _ → Prog (TpuEff nD τ sig (Elt F) Λ₀ .tc) α} :
    iprop(Recs I K ∗ owd c 9 ∗ Wt c 19 ∗ Own c (q10 b10) (sl1 I (nxt c) 0) ∗ Perm c (prv c) (q20 b10) 21 27)
      ⊢ iprop(((owd c 10 ∗ semVal (dcell c 19) 0 ∗ Own c (q10 b10) (sl1 I (nxt c) 0) ∗ Wt c 21) -∗ WP c (k ⟨⟩) Q)
        -∗ WP c (k0_part16 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 v25 (mL I c 1 0) >>= k) Q) := by
  rw [k0_part16_eq_skeleton]; unfold k0_part16_skel
  simp only [semSignalWord, semWaitWord, smemLoad, smemLoadElt, Prog.lift, Prog.bind_op, Prog.bind_ret, Prog.pure_eq_ret, wp_deviceId]
  iintro ⟨#HR, HO, HW19, Hq10_b10, HP9⟩ Hk
  iapply (wait19 I K c rfl ((credit16 _).trans (amt16 (by decide)).symm)) $$ [HO HW19]
  · isplitr; · iexact HR
    isplitl [HO]; · iexact HO
    iexact HW19
  iintro ⟨HO, HZ19, Hsa_b8⟩
  iapply (recv4 c (hq := squeezes_S1x1x512x1024_S512x1024) (M := b10) (sl1 I (nxt c) 0)) $$ Hq10_b10; iintro Hq10_b10
  iapply (slot_any c (M := b8) shapeCasts_S512x1024_S1x512x1024 shapeCasts_S1x512x1024_S512x1024) $$ Hsa_b8
  iintro %_ Hsa_b8
  iapply (slot_put c (M := b8) shapeCasts_S1x512x1024_S512x1024 _ rfl) $$ Hsa_b8; iintro Hsa_b8
  rw [sv24]
  ihave Hsa_b8 : Own c (sa b8) (sl2 I c 0) $$ [Hsa_b8]; · iexact Hsa_b8
  iapply (send9 I K c _ (dev12_eq c) rfl rfl) $$ [HO Hsa_b8 HP9]
  · isplitr; · iexact HR
    isplitl [HO]; · iexact HO
    isplitl [Hsa_b8]; · iexact Hsa_b8
    iexact HP9
  iintro ⟨HO, HW21⟩
  iapply Hk
  isplitl [HO]; · iexact HO
  isplitl [HZ19]; · iexact HZ19
  isplitl [Hq10_b10]; · iexact Hq10_b10
  iexact HW21

theorem part17 (c : Dev nD) {v25 : BitVec 32} {α : Type} {Q : α → sProp 𝕄} {k : _ → Prog (TpuEff nD τ sig (Elt F) Λ₀ .tc) α} :
    iprop(Recs I K ∗ owd c 10 ∗ Wt c 14 ∗ Wt c 8)
      ⊢ iprop(((owd c 10 ∗ semVal (dcell c 14) 0 ∗ Own c (q11 b9) (sr1 I (prv c) 1) ∗ semVal (dcell c 8) 0 ∗ Own c (sb b7) (sr2 I c 1)) -∗ WP c (k ⟨⟩) Q)
        -∗ WP c (k0_part17 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v25 (mR I c 1 1) >>= k) Q) := by
  rw [k0_part17_eq_skeleton]; unfold k0_part17_skel
  simp only [semSignalWord, semWaitWord, smemLoad, smemLoadElt, Prog.lift, Prog.bind_op, Prog.bind_ret, Prog.pure_eq_ret, wp_deviceId]
  iintro ⟨#HR, HO, HW14, HW8⟩ Hk
  iapply (wait14 I K c rfl ((credit16 _).trans (amt16 (by decide)).symm)) $$ [HO HW14]
  · isplitr; · iexact HR
    isplitl [HO]; · iexact HO
    iexact HW14
  iintro ⟨HO, HZ14, Hq11_b9⟩
  iapply (wait8 I K c rfl ((credit16 _).trans (amt16 (by decide)).symm)) $$ [HO HW8]
  · isplitr; · iexact HR
    isplitl [HO]; · iexact HO
    iexact HW8
  iintro ⟨HO, HZ8, Hsb_b7⟩
  iapply (recv4 c (hq := squeezes_S1x1x512x1024_S512x1024) (M := b9) (sr1 I (prv c) 1)) $$ Hq11_b9; iintro Hq11_b9
  iapply (slot_any c (M := b7) shapeCasts_S512x1024_S1x512x1024 shapeCasts_S1x512x1024_S512x1024) $$ Hsb_b7
  iintro %_ Hsb_b7
  iapply (slot_put c (M := b7) shapeCasts_S1x512x1024_S512x1024 _ rfl) $$ Hsb_b7; iintro Hsb_b7
  rw [sv25]
  ihave Hsb_b7 : Own c (sb b7) (sr2 I c 1) $$ [Hsb_b7]; · iexact Hsb_b7
  iapply Hk
  isplitl [HO]; · iexact HO
  isplitl [HZ14]; · iexact HZ14
  isplitl [Hq11_b9]; · iexact Hq11_b9
  isplitl [HZ8]; · iexact HZ8
  iexact Hsb_b7

theorem part18 (c : Dev nD) {v14 : BitVec 32} {α : Type} {Q : α → sProp 𝕄} {k : _ → Prog (TpuEff nD τ sig (Elt F) Λ₀ .tc) α} :
    iprop(Recs I K ∗ owd c 10 ∗ Own c (sb b7) (sr2 I c 1) ∗ Perm c (nxt c) (q21 b9) 10 16 ∗ Wt c 26 ∗ Wt c 20)
      ⊢ iprop(((owd c 11 ∗ Wt c 10 ∗ semVal (dcell c 26) 0 ∗ Own c (q11 b10) (sl1 I (nxt c) 1) ∗ semVal (dcell c 20) 0 ∗ OwnE c (sb b8)) -∗ WP c (k (sl2 I c 1)) Q)
        -∗ WP c (k0_part18 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v14 (mL I c 1 1) >>= k) Q) := by
  rw [k0_part18_eq_skeleton]; unfold k0_part18_skel
  simp only [semSignalWord, semWaitWord, smemLoad, smemLoadElt, Prog.lift, Prog.bind_op, Prog.bind_ret, Prog.pure_eq_ret, wp_deviceId]
  iintro ⟨#HR, HO, Hsb_b7, HP10, HW26, HW20⟩ Hk
  iapply (send10 I K c _ (dev13_eq c) rfl rfl) $$ [HO Hsb_b7 HP10]
  · isplitr; · iexact HR
    isplitl [HO]; · iexact HO
    isplitl [Hsb_b7]; · iexact Hsb_b7
    iexact HP10
  iintro ⟨HO, HW10⟩
  iapply (wait26 I K c rfl ((credit16 _).trans (amt16 (by decide)).symm)) $$ [HO HW26]
  · isplitr; · iexact HR
    isplitl [HO]; · iexact HO
    iexact HW26
  iintro ⟨HO, HZ26, Hq11_b10⟩
  iapply (wait20 I K c rfl ((credit16 _).trans (amt16 (by decide)).symm)) $$ [HO HW20]
  · isplitr; · iexact HR
    isplitl [HO]; · iexact HO
    iexact HW20
  iintro ⟨HO, HZ20, Hsb_b8⟩
  iapply (recv4 c (hq := squeezes_S1x1x512x1024_S512x1024) (M := b10) (sl1 I (nxt c) 1)) $$ Hq11_b10; iintro Hq11_b10
  iapply (slot_any c (M := b8) shapeCasts_S512x1024_S1x512x1024 shapeCasts_S1x512x1024_S512x1024) $$ Hsb_b8
  iintro %_ Hsb_b8
  rw [v26]
  iapply Hk
  isplitl [HO]; · iexact HO
  isplitl [HW10]; · iexact HW10
  isplitl [HZ26]; · iexact HZ26
  isplitl [Hq11_b10]; · iexact Hq11_b10
  isplitl [HZ20]; · iexact HZ20
  iexact Hsb_b8

end Cert.Ring
-- ==== Proof.PartsD.lean ====
/-
# The body's parts: the last sums

What each part of the body needs, and what it leaves, the rest of the program abstract.
-/
module

public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

theorem part19 (c : Dev nD) {v2 v14 : BitVec 32} {α : Type} {Q : α → sProp 𝕄} {k : _ → Prog (TpuEff nD τ sig (Elt F) Λ₀ .tc) α} :
    iprop(Recs I K ∗ OwnE c (sb b8) ∗ owd c 11 ∗ Perm c (prv c) (q21 b10) 22 28 ∗ Own c b5 (I.x c) ∗ Own c b6 (I.w c))
      ⊢ iprop(((owd c 12 ∗ Wt c 22 ∗ Own c b5 (I.x c) ∗ Own c b6 (I.w c)) -∗ WP c (k ⟨mR3 I c 0, mR3 I c 1, (rows (I.x c) (k0_off5 c (ofs 0)) (k0_off5_inb c 0)), colsR (I.w c)⟩) Q)
        -∗ WP c (k0_part19 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v2 v14 (sl2 I c 1) >>= k) Q) := by
  rw [k0_part19_eq_skeleton]; unfold k0_part19_skel
  simp only [semSignalWord, semWaitWord, smemLoad, smemLoadElt, Prog.lift, Prog.bind_op, Prog.bind_ret, Prog.pure_eq_ret, wp_deviceId]
  iintro ⟨#HR, Hsb_b8, HO, HP11, HX, HW⟩ Hk
  iapply (slot_put c (M := b8) shapeCasts_S1x512x1024_S512x1024 _ rfl) $$ Hsb_b8; iintro Hsb_b8
  rw [sv27]
  ihave Hsb_b8 : Own c (sb b8) (sl2 I c 1) $$ [Hsb_b8]; · iexact Hsb_b8
  iapply (send11 I K c _ (dev14_eq c) rfl rfl) $$ [HO Hsb_b8 HP11]
  · isplitr; · iexact HR
    isplitl [HO]; · iexact HO
    isplitl [Hsb_b8]; · iexact Hsb_b8
    iexact HP11
  iintro ⟨HO, HW22⟩
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply (load_own c (M := b5) (I.x c)) $$ HX; iintro HX
  iapply (load_own c (M := b6) (I.w c)) $$ HW; iintro HW
  iapply Hk
  isplitl [HO]; · iexact HO
  isplitl [HW22]; · iexact HW22
  isplitl [HX]; · iexact HX
  iexact HW

theorem part20 (c : Dev nD) {v2 v25 : BitVec 32} {α : Type} {Q : α → sProp 𝕄} {k : _ → Prog (TpuEff nD τ sig (Elt F) Λ₀ .tc) α} :
    iprop(Recs I K ∗ Own c b5 (I.x c) ∗ Own c b6 (I.w c) ∗ Own c b2 (I.sx c) ∗ Own c b3 (I.sw c) ∗ owd c 12 ∗ Wt c 15 ∗ Wt c 9)
      ⊢ iprop(((Own c b5 (I.x c) ∗ Own c b6 (I.w c) ∗ Own c b2 (I.sx c) ∗ Own c b3 (I.sw c) ∗ owd c 12 ∗ semVal (dcell c 15) 0 ∗ Own c (q20 b9) (sr2 I (prv c) 0) ∗ semVal (dcell c 9) 0 ∗ OwnE c (sa b7)) -∗ WP c (k ⟨mL3 I c 0, mL3 I c 1, scl I c⟩) Q)
        -∗ WP c (k0_part20 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 c v2 v25 (rows (I.x c) (k0_off5 c (ofs 0)) (k0_off5_inb c 0)) (colsR (I.w c)) >>= k) Q) := by
  rw [k0_part20_eq_skeleton]; unfold k0_part20_skel
  simp only [semSignalWord, semWaitWord, smemLoad, smemLoadElt, Prog.lift, Prog.bind_op, Prog.bind_ret, Prog.pure_eq_ret, wp_deviceId]
  iintro ⟨#HR, HX, HW, HSX, HSW, HO, HW15, HW9⟩ Hk
  iapply (load_own c (M := b5) (I.x c)) $$ HX; iintro HX
  iapply (load_own c (M := b6) (I.w c)) $$ HW; iintro HW
  iapply (load_all c (M := b2) hz1) $$ HSX; iintro HSX
  iapply (load_all c (M := b3) hz1) $$ HSW; iintro HSW
  iapply (wait15 I K c rfl ((credit16 _).trans (amt16 (by decide)).symm)) $$ [HO HW15]
  · isplitr; · iexact HR
    isplitl [HO]; · iexact HO
    iexact HW15
  iintro ⟨HO, HZ15, Hq20_b9⟩
  iapply (wait9 I K c rfl ((credit16 _).trans (amt16 (by decide)).symm)) $$ [HO HW9]
  · isplitr; · iexact HR
    isplitl [HO]; · iexact HO
    iexact HW9
  iintro ⟨HO, HZ9, Hsa_b7⟩
  iapply Hk
  isplitl [HX]; · iexact HX
  isplitl [HW]; · iexact HW
  isplitl [HSX]; · iexact HSX
  isplitl [HSW]; · iexact HSW
  isplitl [HO]; · iexact HO
  isplitl [HZ15]; · iexact HZ15
  isplitl [Hq20_b9]; · iexact Hq20_b9
  isplitl [HZ9]; · iexact HZ9
  iexact Hsa_b7

theorem part21 (c : Dev nD) {v14 : BitVec 32} {α : Type} {Q : α → sProp 𝕄} {k : _ → Prog (TpuEff nD τ sig (Elt F) Λ₀ .tc) α} :
    iprop(Recs I K ∗ owd c 12 ∗ Wt c 27 ∗ Wt c 21 ∗ Own c (q20 b9) (sr2 I (prv c) 0))
      ⊢ iprop(((owd c 12 ∗ semVal (dcell c 27) 0 ∗ Own c (q20 b10) (sl2 I (nxt c) 0) ∗ semVal (dcell c 21) 0 ∗ OwnE c (sa b8) ∗ Own c (q20 b9) (sr2 I (prv c) 0)) -∗ WP c (k ⟨(pre (mR3 I c 0) (scl I c) (sr2 I (prv c) 0)), (addf (mL3 I c 0) (extf .f32 (sl2 I (nxt c) 0) bitsLt_bf16_f32)), (k0_pay35 (scl I c))⟩) Q)
        -∗ WP c (k0_part21 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v14 (mR3 I c 0) (mL3 I c 0) (scl I c) >>= k) Q) := by
  rw [k0_part21_eq_skeleton]; unfold k0_part21_skel
  simp only [semSignalWord, semWaitWord, smemLoad, smemLoadElt, Prog.lift, Prog.bind_op, Prog.bind_ret, Prog.pure_eq_ret, wp_deviceId]
  iintro ⟨#HR, HO, HW27, HW21, Hq20_b9⟩ Hk
  iapply (wait27 I K c rfl ((credit16 _).trans (amt16 (by decide)).symm)) $$ [HO HW27]
  · isplitr; · iexact HR
    isplitl [HO]; · iexact HO
    iexact HW27
  iintro ⟨HO, HZ27, Hq20_b10⟩
  iapply (wait21 I K c rfl ((credit16 _).trans (amt16 (by decide)).symm)) $$ [HO HW21]
  · isplitr; · iexact HR
    isplitl [HO]; · iexact HO
    iexact HW21
  iintro ⟨HO, HZ21, Hsa_b8⟩
  iapply (recv4 c (hq := squeezes_S1x1x512x1024_S512x1024) (M := b9) (sr2 I (prv c) 0)) $$ Hq20_b9; iintro Hq20_b9
  iapply (recv4 c (hq := squeezes_S1x1x512x1024_S512x1024) (M := b10) (sl2 I (nxt c) 0)) $$ Hq20_b10; iintro Hq20_b10
  rw [v33, v34]
  iapply Hk
  isplitl [HO]; · iexact HO
  isplitl [HZ27]; · iexact HZ27
  isplitl [Hq20_b10]; · iexact Hq20_b10
  isplitl [HZ21]; · iexact HZ21
  isplitl [Hsa_b8]; · iexact Hsa_b8
  iexact Hq20_b9

theorem part22 (c : Dev nD) {v25 : BitVec 32} {α : Type} {Q : α → sProp 𝕄} {k : _ → Prog (TpuEff nD τ sig (Elt F) Λ₀ .tc) α} :
    iprop(Recs I K ∗ OwnE c (ob b4 0) ∗ OwnE c (ob b4 1) ∗ owd c 12 ∗ Wt c 16)
      ⊢ iprop(((Own c (ob b4 0) (outR I c 0) ∗ Own c (ob b4 1) (outL I c 0) ∗ owd c 12 ∗ semVal (dcell c 16) 0 ∗ Own c (q21 b9) (sr2 I (prv c) 1)) -∗ WP c (k ⟨⟩) Q)
        -∗ WP c (k0_part22 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v25 (pre (mR3 I c 0) (scl I c) (sr2 I (prv c) 0)) (addf (mL3 I c 0) (extf .f32 (sl2 I (nxt c) 0) bitsLt_bf16_f32)) (k0_pay35 (scl I c)) >>= k) Q) := by
  rw [k0_part22_eq_skeleton]; unfold k0_part22_skel
  simp only [semSignalWord, semWaitWord, smemLoad, smemLoadElt, Prog.lift, Prog.bind_op, Prog.bind_ret, Prog.pure_eq_ret, wp_deviceId]
  iintro ⟨#HR, Ho0, Ho1, HO, HW16⟩ Hk
  iapply (load_slice (fun _ => rfl) c (M := b4)) $$ Ho0
  iintro %_ Ho0
  iapply (store_slice (fun _ => rfl) c (M := b4)) $$ Ho0; iintro Ho0
  rw [w36]
  ihave Ho0 : Own c (ob b4 0) (outR I c 0) $$ [Ho0]; · iexact Ho0
  iapply (load_slice (fun _ => rfl) c (M := b4)) $$ Ho1
  iintro %_ Ho1
  iapply (store_slice (fun _ => rfl) c (M := b4)) $$ Ho1; iintro Ho1
  rw [w37]
  ihave Ho1 : Own c (ob b4 1) (outL I c 0) $$ [Ho1]; · iexact Ho1
  iapply (wait16 I K c rfl ((credit16 _).trans (amt16 (by decide)).symm)) $$ [HO HW16]
  · isplitr; · iexact HR
    isplitl [HO]; · iexact HO
    iexact HW16
  iintro ⟨HO, HZ16, Hq21_b9⟩
  iapply Hk
  isplitl [Ho0]; · iexact Ho0
  isplitl [Ho1]; · iexact Ho1
  isplitl [HO]; · iexact HO
  isplitl [HZ16]; · iexact HZ16
  iexact Hq21_b9

theorem part23 (c : Dev nD) {v14 : BitVec 32} {α : Type} {Q : α → sProp 𝕄} {k : _ → Prog (TpuEff nD τ sig (Elt F) Λ₀ .tc) α} :
    iprop(Recs I K ∗ owd c 12 ∗ Wt c 10 ∗ Wt c 28 ∗ Wt c 22)
      ⊢ iprop(((owd c 12 ∗ semVal (dcell c 10) 0 ∗ OwnE c (sb b7) ∗ semVal (dcell c 28) 0 ∗ Own c (q21 b10) (sl2 I (nxt c) 1) ∗ semVal (dcell c 22) 0 ∗ OwnE c (sb b8)) -∗ WP c (k ⟨⟩) Q)
        -∗ WP c (k0_part23 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13 v14 >>= k) Q) := by
  rw [k0_part23_eq_skeleton]; unfold k0_part23_skel
  simp only [semSignalWord, semWaitWord, smemLoad, smemLoadElt, Prog.lift, Prog.bind_op, Prog.bind_ret, Prog.pure_eq_ret, wp_deviceId]
  iintro ⟨#HR, HO, HW10, HW28, HW22⟩ Hk
  iapply (wait10 I K c rfl ((credit16 _).trans (amt16 (by decide)).symm)) $$ [HO HW10]
  · isplitr; · iexact HR
    isplitl [HO]; · iexact HO
    iexact HW10
  iintro ⟨HO, HZ10, Hsb_b7⟩
  iapply (wait28 I K c rfl ((credit16 _).trans (amt16 (by decide)).symm)) $$ [HO HW28]
  · isplitr; · iexact HR
    isplitl [HO]; · iexact HO
    iexact HW28
  iintro ⟨HO, HZ28, Hq21_b10⟩
  iapply (wait22 I K c rfl ((credit16 _).trans (amt16 (by decide)).symm)) $$ [HO HW22]
  · isplitr; · iexact HR
    isplitl [HO]; · iexact HO
    iexact HW22
  iintro ⟨HO, HZ22, Hsb_b8⟩
  iapply Hk
  isplitl [HO]; · iexact HO
  isplitl [HZ10]; · iexact HZ10
  isplitl [Hsb_b7]; · iexact Hsb_b7
  isplitl [HZ28]; · iexact HZ28
  isplitl [Hq21_b10]; · iexact Hq21_b10
  isplitl [HZ22]; · iexact HZ22
  iexact Hsb_b8

end Cert.Ring
-- ==== Proof.Part24.lean ====
/-
# The body, to its last two stores

The parts one after another. The right to copy into a neighbour's slot is put together after the barrier wait, out
of the slot that came with it and the tokens held from the start.
-/
module

public import proofs.«01_k».proof.Proof.PartsA
public import proofs.«01_k».proof.Proof.PartsB
public import proofs.«01_k».proof.Proof.PartsC
public import proofs.«01_k».proof.Proof.PartsD

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 25 → ℕ)

/-- The end of a program. -/
theorem ret_step (c : Dev nD) {α : Type} {a : α} {Q : α → sProp 𝕄} : Q a ⊢ WP c (.ret a) Q := by
  unfold WP
  rw [wp_ret]
  iintro H; imodintro; iexact H

theorem part24 (c : Dev nD) {Q : _ → sProp 𝕄} :
    iprop(Recs I K ∗ owesE c (O₀ c) ∗ Own c b0 (I.x c) ∗ Own c b1 (I.w c) ∗ Own c b2 (I.sx c) ∗ Own c b3 (I.sw c) ∗ OwnE c b5 ∗ OwnE c b6 ∗ OwnE c (sa b11) ∗ OwnE c (sb b11) ∗ OwnE c (sa b12) ∗ OwnE c (sb b12) ∗ OwnE c (sa b7) ∗ OwnE c (sb b7) ∗ OwnE c (sa b8) ∗ OwnE c (sb b8) ∗ OwnE c (ob b4 0) ∗ OwnE c (ob b4 1) ∗ OwnE c (ob b4 2) ∗ OwnE c (ob b4 3) ∗ dutyTok ER (barCell (prv c)) 0 true ∗ dutyTok ER (barCell (nxt c)) 0 false ∗ slotsR c ∗ slotsL c ∗ cred (tallyAt (barCell c) () 2) ∗ atPos ER (barCell c) 0 ∅ 0 ∗ (dutyTok ER (dcell c 5) 0 false ∗ dutyTok ER (dcell (nxt c) 11) 0 false ∗ atPos ER (dcell c 5) 0 ∅ 0) ∗ Wt c 11 ∗ (dutyTok ER (dcell c 17) 0 false ∗ dutyTok ER (dcell (prv c) 23) 0 false ∗ atPos ER (dcell c 17) 0 ∅ 0) ∗ Wt c 23 ∗ (dutyTok ER (dcell c 6) 0 false ∗ dutyTok ER (dcell (nxt c) 12) 0 false ∗ atPos ER (dcell c 6) 0 ∅ 0) ∗ Wt c 12 ∗ (dutyTok ER (dcell c 18) 0 false ∗ dutyTok ER (dcell (prv c) 24) 0 false ∗ atPos ER (dcell c 18) 0 ∅ 0) ∗ Wt c 24 ∗ (dutyTok ER (dcell c 7) 0 false ∗ dutyTok ER (dcell (nxt c) 13) 0 false ∗ atPos ER (dcell c 7) 0 ∅ 0) ∗ Wt c 13 ∗ (dutyTok ER (dcell c 19) 0 false ∗ dutyTok ER (dcell (prv c) 25) 0 false ∗ atPos ER (dcell c 19) 0 ∅ 0) ∗ Wt c 25 ∗ (dutyTok ER (dcell c 8) 0 false ∗ dutyTok ER (dcell (nxt c) 14) 0 false ∗ atPos ER (dcell c 8) 0 ∅ 0) ∗ Wt c 14 ∗ (dutyTok ER (dcell c 20) 0 false ∗ dutyTok ER (dcell (prv c) 26) 0 false ∗ atPos ER (dcell c 20) 0 ∅ 0) ∗ Wt c 26 ∗ (dutyTok ER (dcell c 9) 0 false ∗ dutyTok ER (dcell (nxt c) 15) 0 false ∗ atPos ER (dcell c 9) 0 ∅ 0) ∗ Wt c 15 ∗ (dutyTok ER (dcell c 21) 0 false ∗ dutyTok ER (dcell (prv c) 27) 0 false ∗ atPos ER (dcell c 21) 0 ∅ 0) ∗ Wt c 27 ∗ (dutyTok ER (dcell c 10) 0 false ∗ dutyTok ER (dcell (nxt c) 16) 0 false ∗ atPos ER (dcell c 10) 0 ∅ 0) ∗ Wt c 16 ∗ (dutyTok ER (dcell c 22) 0 false ∗ dutyTok ER (dcell (prv c) 28) 0 false ∗ atPos ER (dcell c 22) 0 ∅ 0) ∗ Wt c 28)
      ⊢ iprop(((owd c 12 ∗ Own c b0 (I.x c) ∗ Own c b1 (I.w c) ∗ Own c b2 (I.sx c) ∗ Own c b3 (I.sw c) ∗ Own c b5 (I.x c) ∗ Own c b6 (I.w c) ∗ Own c (ob b4 0) (outR I c 0) ∗ Own c (ob b4 1) (outL I c 0) ∗ OwnE c (ob b4 2) ∗ OwnE c (ob b4 3) ∗ semVal (barCell c) 0 ∗ semVal (dcell c 11) 0 ∗ Own c (sa b13) (sr0 I (prv c) 0) ∗ semVal (dcell c 5) 0 ∗ OwnE c (sa b11) ∗ semVal (dcell c 23) 0 ∗ Own c (sa b14) (sl0 I (nxt c) 0) ∗ semVal (dcell c 17) 0 ∗ OwnE c (sa b12) ∗ semVal (dcell c 12) 0 ∗ Own c (sb b13) (sr0 I (prv c) 1) ∗ semVal (dcell c 6) 0 ∗ OwnE c (sb b11) ∗ semVal (dcell c 24) 0 ∗ Own c (sb b14) (sl0 I (nxt c) 1) ∗ semVal (dcell c 18) 0 ∗ OwnE c (sb b12) ∗ semVal (dcell c 13) 0 ∗ Own c (q10 b9) (sr1 I (prv c) 0) ∗ semVal (dcell c 7) 0 ∗ semVal (dcell c 25) 0 ∗ Own c (q10 b10) (sl1 I (nxt c) 0) ∗ semVal (dcell c 19) 0 ∗ semVal (dcell c 14) 0 ∗ Own c (q11 b9) (sr1 I (prv c) 1) ∗ semVal (dcell c 8) 0 ∗ semVal (dcell c 26) 0 ∗ Own c (q11 b10) (sl1 I (nxt c) 1) ∗ semVal (dcell c 20) 0 ∗ semVal (dcell c 15) 0 ∗ Own c (q20 b9) (sr2 I (prv c) 0) ∗ semVal (dcell c 9) 0 ∗ OwnE c (sa b7) ∗ semVal (dcell c 27) 0 ∗ Own c (q20 b10) (sl2 I (nxt c) 0) ∗ semVal (dcell c 21) 0 ∗ OwnE c (sa b8) ∗ semVal (dcell c 16) 0 ∗ Own c (q21 b9) (sr2 I (prv c) 1) ∗ semVal (dcell c 10) 0 ∗ OwnE c (sb b7) ∗ semVal (dcell c 28) 0 ∗ Own c (q21 b10) (sl2 I (nxt c) 1) ∗ semVal (dcell c 22) 0 ∗ OwnE c (sb b8))
          -∗ Q ⟨k0_pay38 (mR3 I c 1) (scl I c) (shapeCast S1x1x512x1024 (sr2 I (prv c) 1) casts4), k0_pay39 (mL3 I c 1) (scl I c) (shapeCast S1x1x512x1024 (sl2 I (nxt c) 1) casts4), k0_pay40 (mL3 I c 1) (scl I c) (shapeCast S1x1x512x1024 (sl2 I (nxt c) 1) casts4), k0_pay41 (mR3 I c 1) (scl I c) (shapeCast S1x1x512x1024 (sr2 I (prv c) 1) casts4), k0_pay42 (F := F)⟩)
        -∗ WP c (k0_part24 (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13) Q) := by
  rw [k0_part24_eq_skeleton]; unfold k0_part24_skel
  iintro ⟨#HR, HO, HIX, HIW, HSX, HSW, HX, HW, Hsa_b11, Hsb_b11, Hsa_b12, Hsb_b12, Hsa_b7, Hsb_b7, Hsa_b8, Hsb_b8, Ho0, Ho1, Ho2, Ho3, HtP, HtN, HsR, HsL, HcB, HaB, HT0, HW11, HT1, HW23, HT2, HW12, HT3, HW24, HT4, HW13, HT5, HW25, HT6, HW14, HT7, HW26, HT8, HW15, HT9, HW27, HT10, HW16, HT11, HW28⟩ Hk
  iapply (part1 I K c) $$ [HO HtP HsR HtN HsL HIX]
  · isplitr; · iexact HR
    isplitl [HO]; · iexact HO
    isplitl [HtP]; · iexact HtP
    isplitl [HsR]; · iexact HsR
    isplitl [HtN]; · iexact HtN
    isplitl [HsL]; · iexact HsL
    iexact HIX
  iintro %_ %_ %_
  iintro ⟨HO, HIX⟩
  try dsimp only
  iapply (part2 I K c) $$ [HX HIW HW]
  · isplitr; · iexact HR
    isplitl [HX]; · iexact HX
    isplitl [HIW]; · iexact HIW
    iexact HW
  iintro %_ %_
  iintro ⟨HX, HIW, HW⟩
  try dsimp only
  iapply (part3 I K c) $$ [HX HW Hsa_b11 Hsa_b12 HO HcB HaB]
  · isplitr; · iexact HR
    isplitl [HX]; · iexact HX
    isplitl [HW]; · iexact HW
    isplitl [Hsa_b11]; · iexact Hsa_b11
    isplitl [Hsa_b12]; · iexact Hsa_b12
    isplitl [HO]; · iexact HO
    isplitl [HcB]; · iexact HcB
    iexact HaB
  iintro ⟨HX, HW, Hsa_b11, Hsa_b12, HO, HZB, HgL, HgR⟩
  unfold slotsL slotsR
  icases HgR with ⟨GP0, GP2, GP4, GP6, GP8, GP10⟩
  icases HgL with ⟨GP1, GP3, GP5, GP7, GP9, GP11⟩
  ihave HP0 : Perm (F := F) c (nxt c) (sa b13) 5 11 $$ [GP0 HT0]
  · unfold Perm; isplitl [GP0]; · iexact GP0
    iexact HT0
  ihave HP1 : Perm (F := F) c (prv c) (sa b14) 17 23 $$ [GP1 HT1]
  · unfold Perm; isplitl [GP1]; · iexact GP1
    iexact HT1
  ihave HP2 : Perm (F := F) c (nxt c) (sb b13) 6 12 $$ [GP2 HT2]
  · unfold Perm; isplitl [GP2]; · iexact GP2
    iexact HT2
  ihave HP3 : Perm (F := F) c (prv c) (sb b14) 18 24 $$ [GP3 HT3]
  · unfold Perm; isplitl [GP3]; · iexact GP3
    iexact HT3
  ihave HP4 : Perm (F := F) c (nxt c) (q10 b9) 7 13 $$ [GP4 HT4]
  · unfold Perm; isplitl [GP4]; · iexact GP4
    iexact HT4
  ihave HP5 : Perm (F := F) c (prv c) (q10 b10) 19 25 $$ [GP5 HT5]
  · unfold Perm; isplitl [GP5]; · iexact GP5
    iexact HT5
  ihave HP6 : Perm (F := F) c (nxt c) (q11 b9) 8 14 $$ [GP6 HT6]
  · unfold Perm; isplitl [GP6]; · iexact GP6
    iexact HT6
  ihave HP7 : Perm (F := F) c (prv c) (q11 b10) 20 26 $$ [GP7 HT7]
  · unfold Perm; isplitl [GP7]; · iexact GP7
    iexact HT7
  ihave HP8 : Perm (F := F) c (nxt c) (q20 b9) 9 15 $$ [GP8 HT8]
  · unfold Perm; isplitl [GP8]; · iexact GP8
    iexact HT8
  ihave HP9 : Perm (F := F) c (prv c) (q20 b10) 21 27 $$ [GP9 HT9]
  · unfold Perm; isplitl [GP9]; · iexact GP9
    iexact HT9
  ihave HP10 : Perm (F := F) c (nxt c) (q21 b9) 10 16 $$ [GP10 HT10]
  · unfold Perm; isplitl [GP10]; · iexact GP10
    iexact HT10
  ihave HP11 : Perm (F := F) c (prv c) (q21 b10) 22 28 $$ [GP11 HT11]
  · unfold Perm; isplitl [GP11]; · iexact GP11
    iexact HT11
  try dsimp only
  iapply (part4 I K c) $$ [HO Hsa_b11 HP0 Hsa_b12 HP1 HX HW Hsb_b11]
  · isplitr; · iexact HR
    isplitl [HO]; · iexact HO
    isplitl [Hsa_b11]; · iexact Hsa_b11
    isplitl [HP0]; · iexact HP0
    isplitl [Hsa_b12]; · iexact Hsa_b12
    isplitl [HP1]; · iexact HP1
    isplitl [HX]; · iexact HX
    isplitl [HW]; · iexact HW
    iexact Hsb_b11
  iintro ⟨HO, HW5, HW17, HX, HW, Hsb_b11⟩
  try dsimp only
  iapply (part5 I K c) $$ [Hsb_b12 HO Hsb_b11 HP2 HP3]
  · isplitr; · iexact HR
    isplitl [Hsb_b12]; · iexact Hsb_b12
    isplitl [HO]; · iexact HO
    isplitl [Hsb_b11]; · iexact Hsb_b11
    isplitl [HP2]; · iexact HP2
    iexact HP3
  iintro %_ %_ %_ %_
  iintro ⟨HO, HW6, HW18⟩
  try dsimp only
  iapply (part6 I K c) $$ [HX HW]
  · isplitr; · iexact HR
    isplitl [HX]; · iexact HX
    iexact HW
  iintro %_ %_
  iintro ⟨HX, HW⟩
  try dsimp only
  iapply (part7 I K c) $$ [HX HW HO HW11 HW5]
  · isplitr; · iexact HR
    isplitl [HX]; · iexact HX
    isplitl [HW]; · iexact HW
    isplitl [HO]; · iexact HO
    isplitl [HW11]; · iexact HW11
    iexact HW5
  iintro ⟨HX, HW, HO, HZ11, Hsa_b13, HZ5, Hsa_b11⟩
  try dsimp only
  iapply (part8 I K c) $$ [Hsa_b13 Hsa_b7 HO HP4 HW23]
  · isplitr; · iexact HR
    isplitl [Hsa_b13]; · iexact Hsa_b13
    isplitl [Hsa_b7]; · iexact Hsa_b7
    isplitl [HO]; · iexact HO
    isplitl [HP4]; · iexact HP4
    iexact HW23
  iintro ⟨Hsa_b13, HO, HW7, HZ23, Hsa_b14⟩
  try dsimp only
  iapply (part9 I K c) $$ [HO HW17 Hsa_b14 Hsa_b8 HP5]
  · isplitr; · iexact HR
    isplitl [HO]; · iexact HO
    isplitl [HW17]; · iexact HW17
    isplitl [Hsa_b14]; · iexact Hsa_b14
    isplitl [Hsa_b8]; · iexact Hsa_b8
    iexact HP5
  iintro ⟨HO, HZ17, Hsa_b12, Hsa_b14, HW19⟩
  try dsimp only
  iapply (part10 I K c) $$ [HO HW12 HW6 Hsb_b7]
  · isplitr; · iexact HR
    isplitl [HO]; · iexact HO
    isplitl [HW12]; · iexact HW12
    isplitl [HW6]; · iexact HW6
    iexact Hsb_b7
  iintro %_ %_
  iintro ⟨HO, HZ12, Hsb_b13, HZ6, Hsb_b11, Hsb_b7⟩
  try dsimp only
  iapply (part11 I K c) $$ [HO Hsb_b7 HP6 HW24 HW18]
  · isplitr; · iexact HR
    isplitl [HO]; · iexact HO
    isplitl [Hsb_b7]; · iexact Hsb_b7
    isplitl [HP6]; · iexact HP6
    isplitl [HW24]; · iexact HW24
    iexact HW18
  iintro ⟨HO, HW8, HZ24, Hsb_b14, HZ18, Hsb_b12⟩
  try dsimp only
  iapply (part12 I K c) $$ [Hsb_b8 HO HP7]
  · isplitr; · iexact HR
    isplitl [Hsb_b8]; · iexact Hsb_b8
    isplitl [HO]; · iexact HO
    iexact HP7
  iintro %_ %_ %_ %_
  iintro ⟨HO, HW20⟩
  try dsimp only
  iapply (part13 I K c) $$ [HX HW]
  · isplitr; · iexact HR
    isplitl [HX]; · iexact HX
    iexact HW
  iintro ⟨HX, HW⟩
  try dsimp only
  iapply (part14 I K c) $$ [HO HW13 HW7]
  · isplitr; · iexact HR
    isplitl [HO]; · iexact HO
    isplitl [HW13]; · iexact HW13
    iexact HW7
  iintro ⟨HO, HZ13, Hq10_b9, HZ7, Hsa_b7⟩
  try dsimp only
  iapply (part15 I K c) $$ [HO Hsa_b7 HP8 HW25]
  · isplitr; · iexact HR
    isplitl [HO]; · iexact HO
    isplitl [Hsa_b7]; · iexact Hsa_b7
    isplitl [HP8]; · iexact HP8
    iexact HW25
  iintro ⟨HO, HW9, HZ25, Hq10_b10⟩
  try dsimp only
  iapply (part16 I K c) $$ [HO HW19 Hq10_b10 HP9]
  · isplitr; · iexact HR
    isplitl [HO]; · iexact HO
    isplitl [HW19]; · iexact HW19
    isplitl [Hq10_b10]; · iexact Hq10_b10
    iexact HP9
  iintro ⟨HO, HZ19, Hq10_b10, HW21⟩
  try dsimp only
  iapply (part17 I K c) $$ [HO HW14 HW8]
  · isplitr; · iexact HR
    isplitl [HO]; · iexact HO
    isplitl [HW14]; · iexact HW14
    iexact HW8
  iintro ⟨HO, HZ14, Hq11_b9, HZ8, Hsb_b7⟩
  try dsimp only
  iapply (part18 I K c) $$ [HO Hsb_b7 HP10 HW26 HW20]
  · isplitr; · iexact HR
    isplitl [HO]; · iexact HO
    isplitl [Hsb_b7]; · iexact Hsb_b7
    isplitl [HP10]; · iexact HP10
    isplitl [HW26]; · iexact HW26
    iexact HW20
  iintro ⟨HO, HW10, HZ26, Hq11_b10, HZ20, Hsb_b8⟩
  try dsimp only
  iapply (part19 I K c) $$ [Hsb_b8 HO HP11 HX HW]
  · isplitr; · iexact HR
    isplitl [Hsb_b8]; · iexact Hsb_b8
    isplitl [HO]; · iexact HO
    isplitl [HP11]; · iexact HP11
    isplitl [HX]; · iexact HX
    iexact HW
  iintro ⟨HO, HW22, HX, HW⟩
  try dsimp only
  iapply (part20 I K c) $$ [HX HW HSX HSW HO HW15 HW9]
  · isplitr; · iexact HR
    isplitl [HX]; · iexact HX
    isplitl [HW]; · iexact HW
    isplitl [HSX]; · iexact HSX
    isplitl [HSW]; · iexact HSW
    isplitl [HO]; · iexact HO
    isplitl [HW15]; · iexact HW15
    iexact HW9
  iintro ⟨HX, HW, HSX, HSW, HO, HZ15, Hq20_b9, HZ9, Hsa_b7⟩
  try dsimp only
  iapply (part21 I K c) $$ [HO HW27 HW21 Hq20_b9]
  · isplitr; · iexact HR
    isplitl [HO]; · iexact HO
    isplitl [HW27]; · iexact HW27
    isplitl [HW21]; · iexact HW21
    iexact Hq20_b9
  iintro ⟨HO, HZ27, Hq20_b10, HZ21, Hsa_b8, Hq20_b9⟩
  try dsimp only
  iapply (part22 I K c) $$ [Ho0 Ho1 HO HW16]
  · isplitr; · iexact HR
    isplitl [Ho0]; · iexact Ho0
    isplitl [Ho1]; · iexact Ho1
    isplitl [HO]; · iexact HO
    iexact HW16
  iintro ⟨Ho0, Ho1, HO, HZ16, Hq21_b9⟩
  try dsimp only
  iapply (part23 I K c) $$ [HO HW10 HW28 HW22]
  · isplitr; · iexact HR
    isplitl [HO]; · iexact HO
    isplitl [HW10]; · iexact HW10
    isplitl [HW28]; · iexact HW28
    iexact HW22
  iintro ⟨HO, HZ10, Hsb_b7, HZ28, Hq21_b10, HZ22, Hsb_b8⟩
  try dsimp only
  simp only [Prog.lift, Prog.bind_op, Prog.bind_ret, Prog.pure_eq_ret]
  iapply (recv4 c (hq := squeezes_S1x1x512x1024_S512x1024) (M := b9) (sr2 I (prv c) 1)) $$ Hq21_b9; iintro Hq21_b9
  iapply (recv4 c (hq := squeezes_S1x1x512x1024_S512x1024) (M := b10) (sl2 I (nxt c) 1)) $$ Hq21_b10; iintro Hq21_b10
  iapply (ret_step c)
  iapply Hk
  isplitl [HO]; · iexact HO
  isplitl [HIX]; · iexact HIX
  isplitl [HIW]; · iexact HIW
  isplitl [HSX]; · iexact HSX
  isplitl [HSW]; · iexact HSW
  isplitl [HX]; · iexact HX
  isplitl [HW]; · iexact HW
  isplitl [Ho0]; · iexact Ho0
  isplitl [Ho1]; · iexact Ho1
  isplitl [Ho2]; · iexact Ho2
  isplitl [Ho3]; · iexact Ho3
  isplitl [HZB]; · iexact HZB
  isplitl [HZ11]; · iexact HZ11
  isplitl [Hsa_b13]; · iexact Hsa_b13
  isplitl [HZ5]; · iexact HZ5
  isplitl [Hsa_b11]; · iexact Hsa_b11
  isplitl [HZ23]; · iexact HZ23
  isplitl [Hsa_b14]; · iexact Hsa_b14
  isplitl [HZ17]; · iexact HZ17
  isplitl [Hsa_b12]; · iexact Hsa_b12
  isplitl [HZ12]; · iexact HZ12
  isplitl [Hsb_b13]; · iexact Hsb_b13
  isplitl [HZ6]; · iexact HZ6
  isplitl [Hsb_b11]; · iexact Hsb_b11
  isplitl [HZ24]; · iexact HZ24
  isplitl [Hsb_b14]; · iexact Hsb_b14
  isplitl [HZ18]; · iexact HZ18
  isplitl [Hsb_b12]; · iexact Hsb_b12
  isplitl [HZ13]; · iexact HZ13
  isplitl [Hq10_b9]; · iexact Hq10_b9
  isplitl [HZ7]; · iexact HZ7
  isplitl [HZ25]; · iexact HZ25
  isplitl [Hq10_b10]; · iexact Hq10_b10
  isplitl [HZ19]; · iexact HZ19
  isplitl [HZ14]; · iexact HZ14
  isplitl [Hq11_b9]; · iexact Hq11_b9
  isplitl [HZ8]; · iexact HZ8
  isplitl [HZ26]; · iexact HZ26
  isplitl [Hq11_b10]; · iexact Hq11_b10
  isplitl [HZ20]; · iexact HZ20
  isplitl [HZ15]; · iexact HZ15
  isplitl [Hq20_b9]; · iexact Hq20_b9
  isplitl [HZ9]; · iexact HZ9
  isplitl [Hsa_b7]; · iexact Hsa_b7
  isplitl [HZ27]; · iexact HZ27
  isplitl [Hq20_b10]; · iexact Hq20_b10
  isplitl [HZ21]; · iexact HZ21
  isplitl [Hsa_b8]; · iexact Hsa_b8
  isplitl [HZ16]; · iexact HZ16
  isplitl [Hq21_b9]; · iexact Hq21_b9
  isplitl [HZ10]; · iexact HZ10
  isplitl [Hsb_b7]; · iexact Hsb_b7
  isplitl [HZ28]; · iexact HZ28
  isplitl [Hq21_b10]; · iexact Hq21_b10
  isplitl [HZ22]; · iexact HZ22
  iexact Hsb_b8

end Cert.Ring
-- ==== Proof.Body.lean ====
/-
# The body

What a device starts with and what it leaves, and the body from the one to the other: its receive slots handed to
the neighbours at the signals, the parts, the last two stores, and the buffers put together again.
-/
module

public import proofs.«01_k».proof.Proof.Part24
public import Idealize.ShloMosaic.Lib.ValueIdxCore

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx (ix2)

variable (I : Inp F) (K : Dev nD × Fin 25 → ℕ)

/-! ## What a device starts with -/

/-- The tokens of a device's own twelve send cells; -/
def tokS (c : Dev nD) : sProp 𝕄 :=
  iprop(dutyTok ER (dcell c 5) 0 false ∗ dutyTok ER (dcell c 6) 0 false ∗ dutyTok ER (dcell c 7) 0 false ∗ dutyTok ER (dcell c 8) 0 false ∗ dutyTok ER (dcell c 9) 0 false ∗ dutyTok ER (dcell c 10) 0 false ∗ dutyTok ER (dcell c 17) 0 false ∗ dutyTok ER (dcell c 18) 0 false ∗ dutyTok ER (dcell c 19) 0 false ∗ dutyTok ER (dcell c 20) 0 false ∗ dutyTok ER (dcell c 21) 0 false ∗ dutyTok ER (dcell c 22) 0 false)
/-- of the six receive cells of chain R at a device; -/
def tokR (c : Dev nD) : sProp 𝕄 :=
  iprop(dutyTok ER (dcell c 11) 0 false ∗ dutyTok ER (dcell c 12) 0 false ∗ dutyTok ER (dcell c 13) 0 false ∗ dutyTok ER (dcell c 14) 0 false ∗ dutyTok ER (dcell c 15) 0 false ∗ dutyTok ER (dcell c 16) 0 false)
/-- and of chain L. -/
def tokL (c : Dev nD) : sProp 𝕄 :=
  iprop(dutyTok ER (dcell c 23) 0 false ∗ dutyTok ER (dcell c 24) 0 false ∗ dutyTok ER (dcell c 25) 0 false ∗ dutyTok ER (dcell c 26) 0 false ∗ dutyTok ER (dcell c 27) 0 false ∗ dutyTok ER (dcell c 28) 0 false)
/-- The positions at a device's own cells. -/
def posA (c : Dev nD) : sProp 𝕄 :=
  iprop(atPos ER (barCell c) 0 ∅ 0 ∗ atPos ER (dcell c 5) 0 ∅ 0 ∗ atPos ER (dcell c 6) 0 ∅ 0 ∗ atPos ER (dcell c 7) 0 ∅ 0 ∗ atPos ER (dcell c 8) 0 ∅ 0 ∗ atPos ER (dcell c 9) 0 ∅ 0 ∗ atPos ER (dcell c 10) 0 ∅ 0 ∗ atPos ER (dcell c 11) 0 ∅ 0 ∗ atPos ER (dcell c 12) 0 ∅ 0 ∗ atPos ER (dcell c 13) 0 ∅ 0 ∗ atPos ER (dcell c 14) 0 ∅ 0 ∗ atPos ER (dcell c 15) 0 ∅ 0 ∗ atPos ER (dcell c 16) 0 ∅ 0 ∗ atPos ER (dcell c 17) 0 ∅ 0 ∗ atPos ER (dcell c 18) 0 ∅ 0 ∗ atPos ER (dcell c 19) 0 ∅ 0 ∗ atPos ER (dcell c 20) 0 ∅ 0 ∗ atPos ER (dcell c 21) 0 ∅ 0 ∗ atPos ER (dcell c 22) 0 ∅ 0 ∗ atPos ER (dcell c 23) 0 ∅ 0 ∗ atPos ER (dcell c 24) 0 ∅ 0 ∗ atPos ER (dcell c 25) 0 ∅ 0 ∗ atPos ER (dcell c 26) 0 ∅ 0 ∗ atPos ER (dcell c 27) 0 ∅ 0 ∗ atPos ER (dcell c 28) 0 ∅ 0)
/-- The credit of the cells a device waits on without having issued the copy itself. -/
def credA (c : Dev nD) : sProp 𝕄 :=
  iprop(cred (tallyAt (barCell c) () 2) ∗ cred (tallyAt (dcell c 11) () (amtD 11)) ∗ cred (tallyAt (dcell c 12) () (amtD 12)) ∗ cred (tallyAt (dcell c 13) () (amtD 13)) ∗ cred (tallyAt (dcell c 14) () (amtD 14)) ∗ cred (tallyAt (dcell c 15) () (amtD 15)) ∗ cred (tallyAt (dcell c 16) () (amtD 16)) ∗ cred (tallyAt (dcell c 23) () (amtD 23)) ∗ cred (tallyAt (dcell c 24) () (amtD 24)) ∗ cred (tallyAt (dcell c 25) () (amtD 25)) ∗ cred (tallyAt (dcell c 26) () (amtD 26)) ∗ cred (tallyAt (dcell c 27) () (amtD 27)) ∗ cred (tallyAt (dcell c 28) () (amtD 28)))
/-- A device's own cells at zero. -/
def zeros (c : Dev nD) : sProp 𝕄 :=
  iprop(semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0 ∗ semVal (dcell c 18) 0 ∗ semVal (dcell c 19) 0 ∗ semVal (dcell c 20) 0 ∗ semVal (dcell c 21) 0 ∗ semVal (dcell c 22) 0 ∗ semVal (dcell c 23) 0 ∗ semVal (dcell c 24) 0 ∗ semVal (dcell c 25) 0 ∗ semVal (dcell c 26) 0 ∗ semVal (dcell c 27) 0 ∗ semVal (dcell c 28) 0)
/-- The tokens of the duties a device pays, and its positions. -/
def ghost (c : Dev nD) : sProp 𝕄 :=
  iprop(dutyTok ER (barCell (prv c)) 0 true ∗ dutyTok ER (barCell (nxt c)) 0 false ∗ tokS c ∗ tokR (nxt c) ∗ tokL (prv c) ∗ posA c)

/-- The ten scratch buffers, at any contents. -/
def scratch (c : Dev nD) : sProp 𝕄 :=
  iprop(OwnE c b5 ∗ OwnE c b6 ∗ OwnE c b7 ∗ OwnE c b8 ∗ OwnE c b9 ∗ OwnE c b10 ∗ OwnE c b11 ∗ OwnE c b12 ∗ OwnE c b13 ∗ OwnE c b14)

/-! ## The result of a device -/

theorem ix2_ext {m n : Nat} (a : Fin m) (b : Fin n) (j : (⟨2, ![m, n]⟩ : Shape).Idx) (h0 : a.val = (j 0).val) (h1 : b.val = (j 1).val) : ix2 a b = j := by
  funext d; match d with
  | ⟨0, _⟩ => exact Fin.ext h0
  | ⟨1, _⟩ => exact Fin.ext h1

/-- The result's block of a device: the row half picks the sub-block, the column half the chain. -/
def outAt (c : Dev nD) : S1024x2048.Idx → Elt F .f32 := fun j =>
  have h0 : (j 0).val < 1024 := (j 0).isLt
  have h1 : (j 1).val < 2048 := (j 1).isLt
  if (j 1).val < 1024 then outR I c ⟨(j 0).val / 512, by omega⟩ (ix2 ⟨(j 0).val % 512, Nat.mod_lt _ (by decide)⟩ ⟨(j 1).val % 1024, Nat.mod_lt _ (by decide)⟩)
  else outL I c ⟨(j 0).val / 512, by omega⟩ (ix2 ⟨(j 0).val % 512, Nat.mod_lt _ (by decide)⟩ ⟨(j 1).val % 1024, Nat.mod_lt _ (by decide)⟩)

theorem r4_emb0 (t : Fin 4) (j : S512x1024.Idx) : ((r4 t).emb j 0).val = 512 * (t.val / 2) + (j 0).val := by
  show 512 * (t.val / 2) + 1 * (j 0).val = _; omega
theorem r4_emb1 (t : Fin 4) (j : S512x1024.Idx) : ((r4 t).emb j 1).val = 1024 * (t.val % 2) + (j 1).val := by
  show 1024 * (t.val % 2) + 1 * (j 1).val = _; omega

theorem outAt_left (c : Dev nD) (t : Fin 4) (s : Fin 2) (hs : t.val / 2 = s.val) (h : t.val % 2 = 0) : (fun j => outAt I c ((r4 t).emb j)) = outR I c s := by
  funext j
  have h0 : (j 0).val < 512 := (j 0).isLt
  have h1 : (j 1).val < 1024 := (j 1).isLt
  have e0 := r4_emb0 t j
  have e1 := r4_emb1 t j
  unfold outAt
  dsimp only
  rw [if_pos (by rw [e1]; omega)]
  have es : (⟨((r4 t).emb j 0).val / 512, by omega⟩ : Fin 2) = s := Fin.ext (by show ((r4 t).emb j 0).val / 512 = s.val; omega)
  have ej : ix2 (⟨((r4 t).emb j 0).val % 512, Nat.mod_lt _ (by decide)⟩ : Fin 512) (⟨((r4 t).emb j 1).val % 1024, Nat.mod_lt _ (by decide)⟩ : Fin 1024) = j := by
    refine (ix2_ext _ _ j ?_ ?_)
    · show ((r4 t).emb j 0).val % 512 = (j 0).val; omega
    · show ((r4 t).emb j 1).val % 1024 = (j 1).val; omega
  rw [es]; exact congrArg (outR I c s) ej

theorem outAt_right (c : Dev nD) (t : Fin 4) (s : Fin 2) (hs : t.val / 2 = s.val) (h : t.val % 2 = 1) : (fun j => outAt I c ((r4 t).emb j)) = outL I c s := by
  funext j
  have h0 : (j 0).val < 512 := (j 0).isLt
  have h1 : (j 1).val < 1024 := (j 1).isLt
  have e0 := r4_emb0 t j
  have e1 := r4_emb1 t j
  unfold outAt
  dsimp only
  rw [if_neg (by rw [e1]; omega)]
  have es : (⟨((r4 t).emb j 0).val / 512, by omega⟩ : Fin 2) = s := Fin.ext (by show ((r4 t).emb j 0).val / 512 = s.val; omega)
  have ej : ix2 (⟨((r4 t).emb j 0).val % 512, Nat.mod_lt _ (by decide)⟩ : Fin 512) (⟨((r4 t).emb j 1).val % 1024, Nat.mod_lt _ (by decide)⟩ : Fin 1024) = j := by
    refine (ix2_ext _ _ j ?_ ?_)
    · show ((r4 t).emb j 0).val % 512 = (j 0).val; omega
    · show ((r4 t).emb j 1).val % 1024 = (j 1).val; omega
  rw [es]; exact congrArg (outL I c s) ej

theorem join_out (c : Dev nD) :
    iprop(Own c (ob b4 0) (outR I c 0) ∗ Own c (ob b4 1) (outL I c 0) ∗ Own c (ob b4 2) (outR I c 1) ∗ Own c (ob b4 3) (outL I c 1)) ⊢ Own c b4 (outAt I c) :=
  (BI.sep_mono (Entails.of_eq (congrArg (Own c (ob b4 0)) (outAt_left I c 0 0 rfl rfl).symm))
    (BI.sep_mono (Entails.of_eq (congrArg (Own c (ob b4 1)) (outAt_right I c 1 0 rfl rfl).symm))
      (BI.sep_mono (Entails.of_eq (congrArg (Own c (ob b4 2)) (outAt_left I c 2 1 rfl rfl).symm))
        (Entails.of_eq (congrArg (Own c (ob b4 3)) (outAt_right I c 3 1 rfl rfl).symm))))).trans (join4 c b4 (outAt I c))

/-! ## The body -/

theorem wp_then (c : Dev nD) {α β : Type} (p : Prog (TpuEff nD τ sig (Elt F) Λ₀ .tc) β) (k : β → Prog (TpuEff nD τ sig (Elt F) Λ₀ .tc) α) (Q : α → sProp 𝕄) :
    WP c p (fun a => WP c (k a) Q) ⊢ WP c (p >>= k) Q := by
  unfold WP
  rw [wp_bind]

theorem body (c : Dev nD) {Q : PUnit → sProp 𝕄} :
    iprop(Recs I K ∗ owesE c (O₀ c) ∗ ghost c ∗ credA c ∗ Own c b0 (I.x c) ∗ Own c b1 (I.w c) ∗ Own c b2 (I.sx c) ∗ Own c b3 (I.sw c) ∗ OwnE c b4 ∗ scratch c)
      ⊢ iprop(((owesE c 0 ∗ semVal (barCell c) 0 ∗ zeros c ∗ Own c b0 (I.x c) ∗ Own c b1 (I.w c) ∗ Own c b2 (I.sx c) ∗ Own c b3 (I.sw c) ∗ Own c b4 (outAt I c) ∗ scratch c) -∗ Q ⟨⟩)
        -∗ WP c (cc0_body (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13) Q) := by
  rw [cc0_body_eq_skeleton]; unfold cc0_body_skel ghost credA tokS tokR tokL posA scratch
  iintro ⟨#HR, HO, ⟨HtP, HtN, ⟨Ht5, Ht6, Ht7, Ht8, Ht9, Ht10, Ht17, Ht18, Ht19, Ht20, Ht21, Ht22⟩, ⟨Ht11, Ht12, Ht13, Ht14, Ht15, Ht16⟩, ⟨Ht23, Ht24, Ht25, Ht26, Ht27, Ht28⟩, HaB, Ha5, Ha6, Ha7, Ha8, Ha9, Ha10, Ha11, Ha12, Ha13, Ha14, Ha15, Ha16, Ha17, Ha18, Ha19, Ha20, Ha21, Ha22, Ha23, Ha24, Ha25, Ha26, Ha27, Ha28⟩, ⟨HcB, Hc11, Hc12, Hc13, Hc14, Hc15, Hc16, Hc23, Hc24, Hc25, Hc26, Hc27, Hc28⟩, HIX, HIW, HSX, HSW, HB4, HX, HW, HB7, HB8, HB9, HB10, HB11, HB12, HB13, HB14⟩ Hk
  ihave HB13 := (split2 c b13) $$ HB13; icases HB13 with ⟨Hsa_b13, Hsb_b13⟩
  ihave HB14 := (split2 c b14) $$ HB14; icases HB14 with ⟨Hsa_b14, Hsb_b14⟩
  ihave HB7 := (split2 c b7) $$ HB7; icases HB7 with ⟨Hsa_b7, Hsb_b7⟩
  ihave HB8 := (split2 c b8) $$ HB8; icases HB8 with ⟨Hsa_b8, Hsb_b8⟩
  ihave HB11 := (split2 c b11) $$ HB11; icases HB11 with ⟨Hsa_b11, Hsb_b11⟩
  ihave HB12 := (split2 c b12) $$ HB12; icases HB12 with ⟨Hsa_b12, Hsb_b12⟩
  ihave HB9 := (split6 c b9) $$ HB9; icases HB9 with ⟨Hq00_b9, Hq01_b9, Hq10_b9, Hq11_b9, Hq20_b9, Hq21_b9⟩
  ihave HB10 := (split6 c b10) $$ HB10; icases HB10 with ⟨Hq00_b10, Hq01_b10, Hq10_b10, Hq11_b10, Hq20_b10, Hq21_b10⟩
  ihave HB4 := (split4 c b4) $$ HB4; icases HB4 with ⟨Ho0, Ho1, Ho2, Ho3⟩
  ihave HsR : slotsR (F := F) c $$ [Hsa_b13 Hsb_b13 Hq10_b9 Hq11_b9 Hq20_b9 Hq21_b9]
  · unfold slotsR
    isplitl [Hsa_b13]; · iexact Hsa_b13
    isplitl [Hsb_b13]; · iexact Hsb_b13
    isplitl [Hq10_b9]; · iexact Hq10_b9
    isplitl [Hq11_b9]; · iexact Hq11_b9
    isplitl [Hq20_b9]; · iexact Hq20_b9
    iexact Hq21_b9
  ihave HsL : slotsL (F := F) c $$ [Hsa_b14 Hsb_b14 Hq10_b10 Hq11_b10 Hq20_b10 Hq21_b10]
  · unfold slotsL
    isplitl [Hsa_b14]; · iexact Hsa_b14
    isplitl [Hsb_b14]; · iexact Hsb_b14
    isplitl [Hq10_b10]; · iexact Hq10_b10
    isplitl [Hq11_b10]; · iexact Hq11_b10
    isplitl [Hq20_b10]; · iexact Hq20_b10
    iexact Hq21_b10
  iapply (wp_then c)
  iapply (part24 I K c) $$ [HO HIX HIW HSX HSW HX HW Hsa_b11 Hsb_b11 Hsa_b12 Hsb_b12 Hsa_b7 Hsb_b7 Hsa_b8 Hsb_b8 Ho0 Ho1 Ho2 Ho3 HtP HtN HsR HsL HcB HaB Ht5 Ht11 Ha5 Hc11 Ha11 Ht17 Ht23 Ha17 Hc23 Ha23 Ht6 Ht12 Ha6 Hc12 Ha12 Ht18 Ht24 Ha18 Hc24 Ha24 Ht7 Ht13 Ha7 Hc13 Ha13 Ht19 Ht25 Ha19 Hc25 Ha25 Ht8 Ht14 Ha8 Hc14 Ha14 Ht20 Ht26 Ha20 Hc26 Ha26 Ht9 Ht15 Ha9 Hc15 Ha15 Ht21 Ht27 Ha21 Hc27 Ha27 Ht10 Ht16 Ha10 Hc16 Ha16 Ht22 Ht28 Ha22 Hc28 Ha28]
  · isplitr; · iexact HR
    isplitl [HO]
    · iexact HO
    isplitl [HIX]
    · iexact HIX
    isplitl [HIW]
    · iexact HIW
    isplitl [HSX]
    · iexact HSX
    isplitl [HSW]
    · iexact HSW
    isplitl [HX]
    · iexact HX
    isplitl [HW]
    · iexact HW
    isplitl [Hsa_b11]
    · iexact Hsa_b11
    isplitl [Hsb_b11]
    · iexact Hsb_b11
    isplitl [Hsa_b12]
    · iexact Hsa_b12
    isplitl [Hsb_b12]
    · iexact Hsb_b12
    isplitl [Hsa_b7]
    · iexact Hsa_b7
    isplitl [Hsb_b7]
    · iexact Hsb_b7
    isplitl [Hsa_b8]
    · iexact Hsa_b8
    isplitl [Hsb_b8]
    · iexact Hsb_b8
    isplitl [Ho0]
    · iexact Ho0
    isplitl [Ho1]
    · iexact Ho1
    isplitl [Ho2]
    · iexact Ho2
    isplitl [Ho3]
    · iexact Ho3
    isplitl [HtP]
    · iexact HtP
    isplitl [HtN]
    · iexact HtN
    isplitl [HsR]
    · iexact HsR
    isplitl [HsL]
    · iexact HsL
    isplitl [HcB]
    · iexact HcB
    isplitl [HaB]
    · iexact HaB
    isplitl [Ht5 Ht11 Ha5]
    · isplitl [Ht5]; · iexact Ht5
      isplitl [Ht11]; · iexact Ht11
      iexact Ha5
    isplitl [Hc11 Ha11]
    · unfold Wt; isplitl [Hc11]; · iexact Hc11
      iexact Ha11
    isplitl [Ht17 Ht23 Ha17]
    · isplitl [Ht17]; · iexact Ht17
      isplitl [Ht23]; · iexact Ht23
      iexact Ha17
    isplitl [Hc23 Ha23]
    · unfold Wt; isplitl [Hc23]; · iexact Hc23
      iexact Ha23
    isplitl [Ht6 Ht12 Ha6]
    · isplitl [Ht6]; · iexact Ht6
      isplitl [Ht12]; · iexact Ht12
      iexact Ha6
    isplitl [Hc12 Ha12]
    · unfold Wt; isplitl [Hc12]; · iexact Hc12
      iexact Ha12
    isplitl [Ht18 Ht24 Ha18]
    · isplitl [Ht18]; · iexact Ht18
      isplitl [Ht24]; · iexact Ht24
      iexact Ha18
    isplitl [Hc24 Ha24]
    · unfold Wt; isplitl [Hc24]; · iexact Hc24
      iexact Ha24
    isplitl [Ht7 Ht13 Ha7]
    · isplitl [Ht7]; · iexact Ht7
      isplitl [Ht13]; · iexact Ht13
      iexact Ha7
    isplitl [Hc13 Ha13]
    · unfold Wt; isplitl [Hc13]; · iexact Hc13
      iexact Ha13
    isplitl [Ht19 Ht25 Ha19]
    · isplitl [Ht19]; · iexact Ht19
      isplitl [Ht25]; · iexact Ht25
      iexact Ha19
    isplitl [Hc25 Ha25]
    · unfold Wt; isplitl [Hc25]; · iexact Hc25
      iexact Ha25
    isplitl [Ht8 Ht14 Ha8]
    · isplitl [Ht8]; · iexact Ht8
      isplitl [Ht14]; · iexact Ht14
      iexact Ha8
    isplitl [Hc14 Ha14]
    · unfold Wt; isplitl [Hc14]; · iexact Hc14
      iexact Ha14
    isplitl [Ht20 Ht26 Ha20]
    · isplitl [Ht20]; · iexact Ht20
      isplitl [Ht26]; · iexact Ht26
      iexact Ha20
    isplitl [Hc26 Ha26]
    · unfold Wt; isplitl [Hc26]; · iexact Hc26
      iexact Ha26
    isplitl [Ht9 Ht15 Ha9]
    · isplitl [Ht9]; · iexact Ht9
      isplitl [Ht15]; · iexact Ht15
      iexact Ha9
    isplitl [Hc15 Ha15]
    · unfold Wt; isplitl [Hc15]; · iexact Hc15
      iexact Ha15
    isplitl [Ht21 Ht27 Ha21]
    · isplitl [Ht21]; · iexact Ht21
      isplitl [Ht27]; · iexact Ht27
      iexact Ha21
    isplitl [Hc27 Ha27]
    · unfold Wt; isplitl [Hc27]; · iexact Hc27
      iexact Ha27
    isplitl [Ht10 Ht16 Ha10]
    · isplitl [Ht10]; · iexact Ht10
      isplitl [Ht16]; · iexact Ht16
      iexact Ha10
    isplitl [Hc16 Ha16]
    · unfold Wt; isplitl [Hc16]; · iexact Hc16
      iexact Ha16
    isplitl [Ht22 Ht28 Ha22]
    · isplitl [Ht22]; · iexact Ht22
      isplitl [Ht28]; · iexact Ht28
      iexact Ha22
    unfold Wt; isplitl [Hc28]; · iexact Hc28
    iexact Ha28
  iintro ⟨HO, HIX, HIW, HSX, HSW, HX, HW, Ho0, Ho1, Ho2, Ho3, HZB, HZ11, Hsa_b13, HZ5, Hsa_b11, HZ23, Hsa_b14, HZ17, Hsa_b12, HZ12, Hsb_b13, HZ6, Hsb_b11, HZ24, Hsb_b14, HZ18, Hsb_b12, HZ13, Hq10_b9, HZ7, HZ25, Hq10_b10, HZ19, HZ14, Hq11_b9, HZ8, HZ26, Hq11_b10, HZ20, HZ15, Hq20_b9, HZ9, Hsa_b7, HZ27, Hq20_b10, HZ21, Hsa_b8, HZ16, Hq21_b9, HZ10, Hsb_b7, HZ28, Hq21_b10, HZ22, Hsb_b8⟩
  try dsimp only
  simp only [Prog.lift, Prog.bind_op, Prog.bind_ret, Prog.pure_eq_ret]
  iapply (load_slice (fun _ => rfl) c (M := b4)) $$ Ho2; iintro %_ Ho2
  iapply (store_slice (fun _ => rfl) c (M := b4)) $$ Ho2; iintro Ho2
  rw [w1]
  ihave Ho2 : Own c (ob b4 2) (outR I c 1) $$ [Ho2]; · iexact Ho2
  iapply (load_slice (fun _ => rfl) c (M := b4)) $$ Ho3; iintro %_ Ho3
  iapply (store_slice (fun _ => rfl) c (M := b4)) $$ Ho3; iintro Ho3
  rw [w2]
  ihave Ho3 : Own c (ob b4 3) (outL I c 1) $$ [Ho3]; · iexact Ho3
  iapply (ret_step c)
  iapply Hk
  ihave HB4 : Own c b4 (outAt I c) $$ [Ho0 Ho1 Ho2 Ho3]
  · iapply (join_out I c)
    isplitl [Ho0]; · iexact Ho0
    isplitl [Ho1]; · iexact Ho1
    isplitl [Ho2]; · iexact Ho2
    iexact Ho3
  ihave HB13 : OwnE (F := F) c b13 $$ [Hsa_b13 Hsb_b13]
  · iapply (join2 c b13)
    isplitl [Hsa_b13]; · iexists _; iexact Hsa_b13
    iexists _; iexact Hsb_b13
  ihave HB14 : OwnE (F := F) c b14 $$ [Hsa_b14 Hsb_b14]
  · iapply (join2 c b14)
    isplitl [Hsa_b14]; · iexists _; iexact Hsa_b14
    iexists _; iexact Hsb_b14
  ihave HB7 : OwnE (F := F) c b7 $$ [Hsa_b7 Hsb_b7]
  · iapply (join2 c b7)
    isplitl [Hsa_b7]; · iexact Hsa_b7
    iexact Hsb_b7
  ihave HB8 : OwnE (F := F) c b8 $$ [Hsa_b8 Hsb_b8]
  · iapply (join2 c b8)
    isplitl [Hsa_b8]; · iexact Hsa_b8
    iexact Hsb_b8
  ihave HB11 : OwnE (F := F) c b11 $$ [Hsa_b11 Hsb_b11]
  · iapply (join2 c b11)
    isplitl [Hsa_b11]; · iexact Hsa_b11
    iexact Hsb_b11
  ihave HB12 : OwnE (F := F) c b12 $$ [Hsa_b12 Hsb_b12]
  · iapply (join2 c b12)
    isplitl [Hsa_b12]; · iexact Hsa_b12
    iexact Hsb_b12
  ihave HB9 : OwnE (F := F) c b9 $$ [Hq00_b9 Hq01_b9 Hq10_b9 Hq11_b9 Hq20_b9 Hq21_b9]
  · iapply (join6 c b9)
    isplitl [Hq00_b9]; · iexact Hq00_b9
    isplitl [Hq01_b9]; · iexact Hq01_b9
    isplitl [Hq10_b9]; · iexists _; iexact Hq10_b9
    isplitl [Hq11_b9]; · iexists _; iexact Hq11_b9
    isplitl [Hq20_b9]; · iexists _; iexact Hq20_b9
    iexists _; iexact Hq21_b9
  ihave HB10 : OwnE (F := F) c b10 $$ [Hq00_b10 Hq01_b10 Hq10_b10 Hq11_b10 Hq20_b10 Hq21_b10]
  · iapply (join6 c b10)
    isplitl [Hq00_b10]; · iexact Hq00_b10
    isplitl [Hq01_b10]; · iexact Hq01_b10
    isplitl [Hq10_b10]; · iexists _; iexact Hq10_b10
    isplitl [Hq11_b10]; · iexists _; iexact Hq11_b10
    isplitl [Hq20_b10]; · iexists _; iexact Hq20_b10
    iexists _; iexact Hq21_b10
  isplitl [HO]; · iexact HO
  isplitl [HZB]; · iexact HZB
  isplitl [HZ5 HZ6 HZ7 HZ8 HZ9 HZ10 HZ11 HZ12 HZ13 HZ14 HZ15 HZ16 HZ17 HZ18 HZ19 HZ20 HZ21 HZ22 HZ23 HZ24 HZ25 HZ26 HZ27 HZ28]
  · unfold zeros
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    isplitl [HZ11]; · iexact HZ11
    isplitl [HZ12]; · iexact HZ12
    isplitl [HZ13]; · iexact HZ13
    isplitl [HZ14]; · iexact HZ14
    isplitl [HZ15]; · iexact HZ15
    isplitl [HZ16]; · iexact HZ16
    isplitl [HZ17]; · iexact HZ17
    isplitl [HZ18]; · iexact HZ18
    isplitl [HZ19]; · iexact HZ19
    isplitl [HZ20]; · iexact HZ20
    isplitl [HZ21]; · iexact HZ21
    isplitl [HZ22]; · iexact HZ22
    isplitl [HZ23]; · iexact HZ23
    isplitl [HZ24]; · iexact HZ24
    isplitl [HZ25]; · iexact HZ25
    isplitl [HZ26]; · iexact HZ26
    isplitl [HZ27]; · iexact HZ27
    iexact HZ28
  isplitl [HIX]; · iexact HIX
  isplitl [HIW]; · iexact HIW
  isplitl [HSX]; · iexact HSX
  isplitl [HSW]; · iexact HSW
  isplitl [HB4]; · iexact HB4
  isplitl [HX]; · iexists _; iexact HX
  isplitl [HW]; · iexists _; iexact HW
  isplitl [HB7]; · iexact HB7
  isplitl [HB8]; · iexact HB8
  isplitl [HB9]; · iexact HB9
  isplitl [HB10]; · iexact HB10
  isplitl [HB11]; · iexact HB11
  isplitl [HB12]; · iexact HB12
  isplitl [HB13]; · iexact HB13
  iexact HB14

end Cert.Ring
-- ==== Proof.Sums.lean ====
/-
# What the kernel computes, over the reals

A narrowing or widening keeps an ideal value, so what a chain carries is a plain sum. Going round the ring each device
adds its own product for the chunk of rows that travels; after three hops the chunk reaches its owner, which adds the
fourth. So each entry of a device's result is the final function of the scaled sum, over the four devices, of their
products at that entry's row and column.
-/
module

public import proofs.«01_k».proof.Proof.Body
public import Idealize.ShloMosaic.Lib.MatmulPlain

@[expose] public section

noncomputable section

namespace Cert.Ring

open Cert.KernelIdeal Cert.KernelIdeal.Gen

open Idealize.ShloMosaic
open Idealize.ShloMosaic.ValueIdx (ix2)

/-- The row of the whole product that row `p` of half `s` of chunk `d` is. -/
def rowOf (d : Dev nD) (s : Fin 2) (p : Fin 512) : Fin 4096 :=
  ⟨1024 * d.val + 512 * s.val + p.val, by have h1 : d.val < 4 := d.isLt; have h2 := s.isLt; have h3 := p.isLt; omega⟩
/-- The columns of the two halves. -/
def colOfL (q : Fin 1024) : Fin 2048 := ⟨q.val, by have := q.isLt; omega⟩
def colOfR (q : Fin 1024) : Fin 2048 := ⟨1024 + q.val, by have := q.isLt; omega⟩

variable (I : Inp Ideal)

/-- Device `d`'s part of the product at an entry. -/
def part (d : Dev nD) (R : Fin 4096) (Q : Fin 2048) : EReal := ∑ k : Fin 1024, (I.x d (ix2 R k) : EReal) * (I.w d (ix2 k Q) : EReal)

/-! ## One product -/

theorem zero_word : (constant (F := Ideal) S512x1024 .f32 0x00000000#32 : FVec Ideal S512x1024 .f32) = fun _ => (0 : EReal) := by
  funext i; exact Ideal.ofBits_zero_f32

theorem mm_at (a : Vec Ideal S512x1024 .fp8e4m3) (b : Vec Ideal S1024x1024 .fp8e4m3) (p : Fin 512) (q : Fin 1024) :
    mm a b (ix2 p q) = ∑ k : Fin 1024, (a (ix2 p k) : EReal) * (b (ix2 k q) : EReal) := by
  unfold mm
  rw [zero_word]
  exact (Ideal.matmul_plain_apply (M := 512) (K := 1024) (N := 1024) none a b (fun _ => (0 : EReal)) p q).trans (zero_add _)

theorem rows_at (X : S4096x1024.Idx → Elt Ideal .fp8e4m3) (off : Fin 2 → Nat) (h : ∀ a, off a + S512x1024.size a ≤ S4096x1024.size a)
    (d : Dev nD) (s : Fin 2) (h0 : off = ![1024 * d.val + 512 * s.val, 0]) (p : Fin 512) (k : Fin 1024) :
    rows X off h (ix2 p k) = X (ix2 (rowOf d s p) k) := by
  subst h0
  refine congrArg X (funext fun a => Fin.ext ?_)
  match a with
  | ⟨0, _⟩ => show 1024 * d.val + 512 * s.val + 1 * p.val = 1024 * d.val + 512 * s.val + p.val; omega
  | ⟨1, _⟩ => show 0 + 1 * k.val = k.val; omega

theorem colsL_at (W : S1024x2048.Idx → Elt Ideal .fp8e4m3) (k q : Fin 1024) : colsL W (ix2 k q) = W (ix2 k (colOfL q)) := by
  refine congrArg W (funext fun a => Fin.ext ?_)
  match a with
  | ⟨0, _⟩ => show 0 + 1 * k.val = k.val; omega
  | ⟨1, _⟩ => show 0 + 1 * q.val = q.val; omega

theorem colsR_at (W : S1024x2048.Idx → Elt Ideal .fp8e4m3) (k q : Fin 1024) : colsR W (ix2 k q) = W (ix2 k (colOfR q)) := by
  refine congrArg W (funext fun a => Fin.ext ?_)
  match a with
  | ⟨0, _⟩ => show 0 + 1 * k.val = k.val; omega
  | ⟨1, _⟩ => show 1024 + 1 * q.val = 1024 + q.val; omega

theorem mm_left (c d : Dev nD) (s : Fin 2) (off : Fin 2 → Nat) (h : ∀ a, off a + S512x1024.size a ≤ S4096x1024.size a)
    (h0 : off = ![1024 * d.val + 512 * s.val, 0]) (p : Fin 512) (q : Fin 1024) :
    mm (rows (I.x c) off h) (colsL (I.w c)) (ix2 p q) = part I c (rowOf d s p) (colOfL q) := by
  rw [mm_at]; unfold part
  exact Finset.sum_congr rfl fun k _ => by rw [rows_at (I.x c) off h d s h0, colsL_at]

theorem mm_right (c d : Dev nD) (s : Fin 2) (off : Fin 2 → Nat) (h : ∀ a, off a + S512x1024.size a ≤ S4096x1024.size a)
    (h0 : off = ![1024 * d.val + 512 * s.val, 0]) (p : Fin 512) (q : Fin 1024) :
    mm (rows (I.x c) off h) (colsR (I.w c)) (ix2 p q) = part I c (rowOf d s p) (colOfR q) := by
  rw [mm_at]; unfold part
  exact Finset.sum_congr rfl fun k _ => by rw [rows_at (I.x c) off h d s h0, colsR_at]

/-! ## Which chunk each product is of -/

theorem off1_is : ∀ (c : Dev nD) (s : Fin 2), k0_off1 c (ofs s) = ![1024 * (prv c).val + 512 * s.val, 0] := by decide +kernel
theorem off2_is : ∀ (c : Dev nD) (s : Fin 2), k0_off2 c (ofs s) = ![1024 * (nxt c).val + 512 * s.val, 0] := by decide +kernel
theorem off3_is0 : ∀ (c : Dev nD) (s : Fin 2), k0_off3 c (hop 0) (ofs s) = ![1024 * (prv (prv c)).val + 512 * s.val, 0] := by decide +kernel
theorem off3_is1 : ∀ (c : Dev nD) (s : Fin 2), k0_off3 c (hop 1) (ofs s) = ![1024 * (prv (prv (prv c))).val + 512 * s.val, 0] := by decide +kernel
theorem off4_is0 : ∀ (c : Dev nD) (s : Fin 2), k0_off4 c (hop 0) (ofs s) = ![1024 * (nxt (nxt c)).val + 512 * s.val, 0] := by decide +kernel
theorem off4_is1 : ∀ (c : Dev nD) (s : Fin 2), k0_off4 c (hop 1) (ofs s) = ![1024 * (nxt (nxt (nxt c))).val + 512 * s.val, 0] := by decide +kernel
theorem off5_is : ∀ (c : Dev nD) (s : Fin 2), k0_off5 c (ofs s) = ![1024 * c.val + 512 * s.val, 0] := by decide +kernel

theorem prv4 : ∀ c : Dev nD, prv (prv (prv (prv c))) = c := by decide
theorem nxt4 : ∀ c : Dev nD, nxt (nxt (nxt (nxt c))) = c := by decide

/-! ## The chains -/

section Chains
variable (c : Dev nD) (s : Fin 2) (p : Fin 512) (q : Fin 1024)

theorem sr0_at : (sr0 I c s (ix2 p q) : EReal) = part I c (rowOf (prv c) s p) (colOfL q) := mm_left I c _ s _ _ (off1_is c s) p q
theorem sr1_at : (sr1 I c s (ix2 p q) : EReal) = part I c (rowOf (prv (prv c)) s p) (colOfL q) + part I (prv c) (rowOf (prv (prv c)) s p) (colOfL q) := by
  show (mR I c 0 s (ix2 p q) : EReal) + (sr0 I (prv c) s (ix2 p q) : EReal) = _
  rw [sr0_at]; exact congrArg (· + _) (mm_left I c _ s _ _ (off3_is0 c s) p q)
theorem sr2_at : (sr2 I c s (ix2 p q) : EReal) = part I c (rowOf (prv (prv (prv c))) s p) (colOfL q)
    + (part I (prv c) (rowOf (prv (prv (prv c))) s p) (colOfL q) + part I (prv (prv c)) (rowOf (prv (prv (prv c))) s p) (colOfL q)) := by
  show (mR I c 1 s (ix2 p q) : EReal) + (sr1 I (prv c) s (ix2 p q) : EReal) = _
  rw [sr1_at]; exact congrArg (· + _) (mm_left I c _ s _ _ (off3_is1 c s) p q)
theorem sl0_at : (sl0 I c s (ix2 p q) : EReal) = part I c (rowOf (nxt c) s p) (colOfR q) := mm_right I c _ s _ _ (off2_is c s) p q
theorem sl1_at : (sl1 I c s (ix2 p q) : EReal) = part I c (rowOf (nxt (nxt c)) s p) (colOfR q) + part I (nxt c) (rowOf (nxt (nxt c)) s p) (colOfR q) := by
  show (mL I c 0 s (ix2 p q) : EReal) + (sl0 I (nxt c) s (ix2 p q) : EReal) = _
  rw [sl0_at]; exact congrArg (· + _) (mm_right I c _ s _ _ (off4_is0 c s) p q)
theorem sl2_at : (sl2 I c s (ix2 p q) : EReal) = part I c (rowOf (nxt (nxt (nxt c))) s p) (colOfR q)
    + (part I (nxt c) (rowOf (nxt (nxt (nxt c))) s p) (colOfR q) + part I (nxt (nxt c)) (rowOf (nxt (nxt (nxt c))) s p) (colOfR q)) := by
  show (mL I c 1 s (ix2 p q) : EReal) + (sl1 I (nxt c) s (ix2 p q) : EReal) = _
  rw [sl1_at]; exact congrArg (· + _) (mm_right I c _ s _ _ (off4_is1 c s) p q)

end Chains

theorem dev_cases : ∀ c : Dev nD, c = (0 : Fin 4) ∨ c = (1 : Fin 4) ∨ c = (2 : Fin 4) ∨ c = (3 : Fin 4) := by decide
theorem prv0 : prv (0 : Fin 4) = (3 : Fin 4) := by decide
theorem prv1 : prv (1 : Fin 4) = (0 : Fin 4) := by decide
theorem prv2 : prv (2 : Fin 4) = (1 : Fin 4) := by decide
theorem prv3 : prv (3 : Fin 4) = (2 : Fin 4) := by decide
theorem nxt0 : nxt (0 : Fin 4) = (1 : Fin 4) := by decide
theorem nxt1 : nxt (1 : Fin 4) = (2 : Fin 4) := by decide
theorem nxt2 : nxt (2 : Fin 4) = (3 : Fin 4) := by decide
theorem nxt3 : nxt (3 : Fin 4) = (0 : Fin 4) := by decide

/-- A sum taken once round the ring, either way, is the sum over the devices. -/
theorem sum_prv (f : Dev nD → EReal) (c : Dev nD) : f c + (f (prv c) + (f (prv (prv c)) + f (prv (prv (prv c))))) = ∑ d : Dev nD, f d := by
  refine Eq.trans ?_ (Fin.sum_univ_four f).symm
  rcases dev_cases c with rfl | rfl | rfl | rfl <;> simp only [prv0, prv1, prv2, prv3] <;> abel
theorem sum_nxt (f : Dev nD → EReal) (c : Dev nD) : f c + (f (nxt c) + (f (nxt (nxt c)) + f (nxt (nxt (nxt c))))) = ∑ d : Dev nD, f d := by
  refine Eq.trans ?_ (Fin.sum_univ_four f).symm
  rcases dev_cases c with rfl | rfl | rfl | rfl <;> simp only [nxt0, nxt1, nxt2, nxt3] <;> abel

/-! ## The result -/

/-- The final function of one value. -/
def act (y : Ideal .f32) : Ideal .f32 :=
  FloatOps.divf y (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) y)))))

theorem fin_at (v : FVec Ideal S512x1024 .f32) (sc : Ideal .f32) (r : FVec Ideal S512x1024 .bf16) (i : S512x1024.Idx) :
    fin v sc r i = act (((v i : EReal) + (r i : EReal)) * (sc : EReal) : EReal) := rfl

theorem outR_at (c : Dev nD) (s : Fin 2) (p : Fin 512) (q : Fin 1024) :
    outR I c s (ix2 p q) = act ((∑ d : Dev nD, part I d (rowOf c s p) (colOfL q)) * (scl I c : EReal) : EReal) := by
  unfold outR
  rw [fin_at, sr2_at, prv4, ← sum_prv (fun d => part I d (rowOf c s p) (colOfL q)) c]
  exact congrArg (fun z : EReal => act ((z + _) * (scl I c : EReal) : EReal)) (mm_left I c _ s _ _ (off5_is c s) p q)

theorem outL_at (c : Dev nD) (s : Fin 2) (p : Fin 512) (q : Fin 1024) :
    outL I c s (ix2 p q) = act ((∑ d : Dev nD, part I d (rowOf c s p) (colOfR q)) * (scl I c : EReal) : EReal) := by
  unfold outL
  rw [fin_at, sl2_at, nxt4, ← sum_nxt (fun d => part I d (rowOf c s p) (colOfR q)) c]
  exact congrArg (fun z : EReal => act ((z + _) * (scl I c : EReal) : EReal)) (mm_right I c _ s _ _ (off5_is c s) p q)

/-- Row `r` of a device's block of the result, in the whole. -/
def wholeRow (c : Dev nD) (r : Fin 1024) : Fin 4096 := ⟨1024 * c.val + r.val, by have h1 : c.val < 4 := c.isLt; have := r.isLt; omega⟩

theorem out_at (c : Dev nD) (r : Fin 1024) (j : Fin 2048) :
    outAt I c (ix2 r j) = act ((∑ d : Dev nD, part I d (wholeRow c r) j) * (scl I c : EReal) : EReal) := by
  have hr := r.isLt
  have hj := j.isLt
  have hrow : rowOf c ⟨r.val / 512, by omega⟩ ⟨r.val % 512, Nat.mod_lt _ (by decide)⟩ = wholeRow c r :=
    Fin.ext (by show 1024 * c.val + 512 * (r.val / 512) + r.val % 512 = 1024 * c.val + r.val; omega)
  unfold outAt
  dsimp only
  by_cases h : j.val < 1024
  · refine (if_pos h).trans ((outR_at I c _ _ _).trans ?_)
    have hc : colOfL ⟨j.val % 1024, Nat.mod_lt _ (by decide)⟩ = j := Fin.ext (by show j.val % 1024 = j.val; omega)
    have e := fun d => congrArg₂ (part I d) hrow hc
    exact congrArg (fun z : EReal => act (z * (scl I c : EReal) : EReal)) (Finset.sum_congr rfl fun d _ => e d)
  · refine (if_neg h).trans ((outL_at I c _ _ _).trans ?_)
    have hc : colOfR ⟨j.val % 1024, Nat.mod_lt _ (by decide)⟩ = j := Fin.ext (by show 1024 + j.val % 1024 = j.val; omega)
    have e := fun d => congrArg₂ (part I d) hrow hc
    exact congrArg (fun z : EReal => act (z * (scl I c : EReal) : EReal)) (Finset.sum_congr rfl fun d _ => e d)

end Cert.Ring
-- ==== Proof.RefValue.lean ====
/-
# The reference's result

The reference is one call without a grid: it reads its operands whole, so its result is one function of the argument
arrays. An entry of it is the final function of the row's product with the column, summed over all 4096 and scaled.
-/
module

public import proofs.«01_k».proof.Proof.Gen.ReferenceIdeal.Value
public import proofs.«01_k».proof.Proof.Sums

@[expose] public section

noncomputable section

namespace Cert.Whole

open Cert.ReferenceIdeal Cert.ReferenceIdeal.Gen Cert.ReferenceIdeal.Value
open Idealize.ShloMosaic
open Idealize.ShloMosaic.TcCoe
open Idealize.ShloMosaic.Tactic
open Idealize.ShloMosaic.ValueIdx (ix2)
open Idealize.SL.Sem
open Cert.Ring (act ix1)

variable {F : FTy → Type} [FloatOps F]

theorem zero2 : (![0, 0] : Fin 2 → Nat) = fun _ => 0 := by decide

/-- An array of one entry has one index. -/
theorem one_idx (i j : S1.Idx) : i = j := funext fun a => match a with | ⟨0, _⟩ => Subsingleton.elim (α := Fin 1) (i 0) (j 0)

theorem left_by_body (c : Dev nD) (a0 : Memref sig .tc .vmem S4096x4096 .fp8e4m3) (h0 : a0.IsWhole)
    (a1 : Memref sig .tc .vmem S4096x2048 .fp8e4m3) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e4m3) (w : Vec F S4096x2048 .fp8e4m3) (sx sw : Vec F S1 .f32) :
    out0_A_4 c a0 h0 a1 h1 a2 h2 a3 h3 a4 h4 x w sx sw = k0_pay1 x w (sx ix1) (sw ix1) := by
  unfold out0_A_4
  rw [View.read_writes_eq_canon _ _ _ (cover0_A_4 c a0 h0 a1 h1 a2 h2 a3 h3 a4 h4 x w sx sw)]
  unfold kernelRun0_A
  dsimp only
  rw [View.canon_unit_zero zero2]
  simp only [View.readAt_eq_ld, h0.read_unread, h1.read_unread, h2.read_unread, h3.read_unread, View.ld_unit_zero (S := S4096x4096) zero2,
    View.ld_unit_zero (S := S4096x2048) zero2, shapeCast_self]
  sl_unfold_words
  simp only [View.readAt_eq_ld, h2.read_unread, h3.read_unread]
  exact congrArg₂ (k0_pay1 x w) (congrArg sx (one_idx _ _)) (congrArg sw (one_idx _ _))

/-! ## The arrays the body finds and leaves -/

section Arrays
variable (m : (ℓ : Loc nD τ sig) → Buf (Elt F) ℓ) (c : Dev nD)

theorem found_0 : iblk m c 0 t0_0 = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
theorem found_1 : iblk m c 1 t0_0 = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _
theorem found_2 : iblk m c 2 t0_0 = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _
theorem found_3 : iblk m c 3 t0_0 = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _
theorem block_whole (f : Buf (Elt F) ((c : Thread nD τ).loc main_v0)) : (win0_4.blk t0_0).view.read (Elt F) f = f := by
  have hz : (fun a => (win0_4.index t0_0) a * main_v0.ty.shape.size a) = fun _ => 0 := funext fun a => by fin_cases a <;> decide
  exact Memref.read_access_unit_zero (Elt F) main_v0 hz (fun a => by fin_cases a <;> decide) f

/-- The reference's result, a function of its four arguments. -/
def result : S4096x2048.Idx → Elt F .f32 :=
  k0_pay1 (m ((c : Thread nD τ).loc main_arg0)) (m ((c : Thread nD τ).loc main_arg1))
    ((m ((c : Thread nD τ).loc main_arg2) : S1.Idx → Elt F .f32) ix1) ((m ((c : Thread nD τ).loc main_arg3) : S1.Idx → Elt F .f32) ix1)

theorem result_is : (dats m 0 c).arrAt 4 cfg0.N = result m c := by
  rw [← block_whole c ((dats m 0 c).arrAt 4 cfg0.N)]
  refine (blocks4 m c t0_0 (flush0_4 t0_0)).trans ((flushed4_A m c t0_0).trans ?_)
  rw [left_by_body, found_0, found_1, found_2, found_3]
  rfl

end Arrays

/-! ## One entry -/

theorem zero_word : (constant (F := Ideal) S4096x2048 .f32 0x00000000#32 : FVec Ideal S4096x2048 .f32) = fun _ => (0 : EReal) := by
  funext i; exact Ideal.ofBits_zero_f32

theorem product_at (x : FVec Ideal S4096x4096 .f32) (w : FVec Ideal S4096x2048 .f32) (R : Fin 4096) (Q : Fin 2048) :
    matmul dot_S4096x4096_S4096x2048_S4096x2048_1_0_0_1_n_n none x w (constant (F := Ideal) S4096x2048 .f32 0x00000000#32) (ix2 R Q)
      = (∑ K : Fin 4096, (x (ix2 R K) : EReal) * (w (ix2 K Q) : EReal) : EReal) := by
  rw [zero_word]
  exact (Ideal.matmul_plain_apply (M := 4096) (K := 4096) (N := 2048) none x w (fun _ => (0 : EReal)) R Q).trans (zero_add _)

theorem payload_at (x : Vec Ideal S4096x4096 .fp8e4m3) (w : Vec Ideal S4096x2048 .fp8e4m3) (a b : Ideal .f32) (R : Fin 4096) (Q : Fin 2048) :
    k0_pay1 (F := Ideal) x w a b (ix2 R Q)
      = act ((∑ K : Fin 4096, (x (ix2 R K) : EReal) * (w (ix2 K Q) : EReal)) * (Scalar.mulf a b : EReal) : EReal) :=
  congrArg (fun z : EReal => act (z * (Scalar.mulf a b : EReal) : EReal))
    (product_at (extf .f32 x bitsLt_fp8e4m3_f32) (extf .f32 w bitsLt_fp8e4m3_f32) R Q)

end Cert.Whole
-- ==== Proof.Point.lean ====
/-
# What the pipeline runs

The operands as the launch finds them, what a device holds before and after its one grid point, and the body as the
pipeline asks for it.
-/
module

public import proofs.«01_k».proof.Proof.Body
public import proofs.«01_k».proof.Proof.Gen.KernelIdeal.Points

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch, every counter at zero. -/
def s₀ : MemSt nD τ sig (Elt F) := ⟨m, fun _ => 0, ρ⟩

/-- The operands, as the pipeline brings them in. -/
def inp : Inp F where
  x c := (win0_0.blk t0_0).view.read (Elt F) (m ((c : Thread nD τ).loc main_arg0))
  w c := (win0_1.blk t0_0).view.read (Elt F) (m ((c : Thread nD τ).loc main_arg1))
  sx c := (win0_2.blk t0_0).view.read (Elt F) (m ((c : Thread nD τ).loc main_arg2))
  sw c := (win0_3.blk t0_0).view.read (Elt F) (m ((c : Thread nD τ).loc main_arg3))

/-- What a device holds before its grid point. -/
def Φ₀ (c : Dev nD) : sProp 𝕄 := iprop((∃ K, Recs (inp m) K ∗ ghost c) ∗ credA c ∗ scratch c)
/-- And after it: the scratch buffers, and every cell of its own at zero. -/
def Φ₁ (c : Dev nD) : sProp 𝕄 := iprop(scratch c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).w c
    | ⟨2, _⟩ => (inp m).sx c
    | ⟨3, _⟩ => (inp m).sw c
    | ⟨4, _⟩ => outAt (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev pt : Fin cfg0.N := t0_0

def Before (c : Dev nD) : sProp 𝕄 :=
  iprop(Φ₀ m c ∗ (dats m ρ 0 c).owesAt () pt.castSucc
    ∗ (∃ d, Own c b0 ((dats m ρ 0 c).before (0 : Fin 5) pt d)) ∗ (∃ d, Own c b1 ((dats m ρ 0 c).before (1 : Fin 5) pt d))
    ∗ (∃ d, Own c b2 ((dats m ρ 0 c).before (2 : Fin 5) pt d)) ∗ (∃ d, Own c b3 ((dats m ρ 0 c).before (3 : Fin 5) pt d))
    ∗ (∃ d, Own c b4 ((dats m ρ 0 c).before (4 : Fin 5) pt d)))
def After (c : Dev nD) : sProp 𝕄 :=
  iprop(Φ₁ c ∗ (dats m ρ 0 c).owesAt () pt.succ
    ∗ Own c b0 ((inp m).x c) ∗ Own c b1 ((inp m).w c) ∗ Own c b2 ((inp m).sx c) ∗ Own c b3 ((inp m).sw c) ∗ Own c b4 (outAt (inp m) c))

theorem before0 (c : Dev nD) (d) : (dats m ρ 0 c).before (0 : Fin 5) pt d = (inp m).x c := by
  unfold Dat.before; rw [if_pos (fetch0_0 pt)]; rfl
theorem before1 (c : Dev nD) (d) : (dats m ρ 0 c).before (1 : Fin 5) pt d = (inp m).w c := by
  unfold Dat.before; rw [if_pos (fetch0_1 pt)]; rfl
theorem before2 (c : Dev nD) (d) : (dats m ρ 0 c).before (2 : Fin 5) pt d = (inp m).sx c := by
  unfold Dat.before; rw [if_pos (fetch0_2 pt)]; rfl
theorem before3 (c : Dev nD) (d) : (dats m ρ 0 c).before (3 : Fin 5) pt d = (inp m).sw c := by
  unfold Dat.before; rw [if_pos (fetch0_3 pt)]; rfl

theorem owes_in (c : Dev nD) : (dats m ρ 0 c).owesAt () pt.castSucc ⊢ owesE c (O₀ c) := by
  unfold Dat.owesAt Pipeline.owesWithin owesE
  iintro ⟨%W, %hW, H⟩
  iexists W; iexact H
theorem owes_out (c : Dev nD) : owesE c 0 ⊢ (dats m ρ 0 c).owesAt () pt.succ := by
  unfold Dat.owesAt Pipeline.owesWithin owesE
  iintro ⟨%W, H⟩
  iexists W
  isplitr; · ipureintro; exact fun _ _ => Or.inl trivial
  iexact H

theorem run_point (c : Dev nD) :
    Before m ρ c ⊢ WP c (cc0_body (F := F) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) cc0_scratch10 cc0_scratch11 cc0_scratch12 cc0_scratch13) (fun _ => After m ρ c) := by
  unfold Before Φ₀
  iintro ⟨⟨⟨%K, #HR, Hg⟩, Hc, Hs⟩, Ho, ⟨%d0, H0⟩, ⟨%d1, H1⟩, ⟨%d2, H2⟩, ⟨%d3, H3⟩, ⟨%d4, H4⟩⟩
  rw [before0, before1, before2, before3]
  ihave HO := (owes_in m ρ c) $$ Ho
  iapply (body (inp m) K c) $$ [HO Hg Hc Hs H0 H1 H2 H3 H4]
  · isplitr; · iexact HR
    isplitl [HO]; · iexact HO
    isplitl [Hg]; · iexact Hg
    isplitl [Hc]; · iexact Hc
    isplitl [H0]; · iexact H0
    isplitl [H1]; · iexact H1
    isplitl [H2]; · iexact H2
    isplitl [H3]; · iexact H3
    isplitl [H4]; · iexists _; iexact H4
    iexact Hs
  iintro ⟨HO, HB, HZ, H0, H1, H2, H3, H4, Hs⟩
  unfold After Φ₁
  isplitl [HB HZ Hs]
  · isplitl [Hs]; · iexact Hs
    isplitl [HZ]; · iexact HZ
    iexact HB
  isplitl [HO]; · iapply (owes_out m ρ c) $$ HO
  isplitl [H0]; · iexact H0
  isplitl [H1]; · iexact H1
  isplitl [H2]; · iexact H2
  isplitl [H3]; · iexact H3
  iexact H4

set_option maxRecDepth 20000 in
/-- The body, as the pipeline asks for it. -/
theorem body_obligation (c : Dev nD) : BodyObligation (dats (F := F) m ρ 0 c) (defs₀ (F := F)) 𝒱₀ () Set.univ := fun t => by
  rw [show t = pt from fin_N0 t]
  rw [bigSep_W0, bigSep_W0]
  exact run_point m ρ c

end Cert.Ring
-- ==== Proof.Deal.lean ====
/-
# The launch

Every device's cells are put under the schedule at once; the tokens of the duties a device pays at its neighbours'
cells are carried around the ring to it; the credit of the cells it waits on is what its neighbours owe there. Then
the run: every weakly fair execution ends, with the arrays as the pipeline leaves them and every counter at zero.
-/
module

public import proofs.«01_k».proof.Proof.Point

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro j j' h
  unfold csem at h
  by_cases h0 : j.val = 0 <;> by_cases h1 : j'.val = 0
  · exact Fin.ext (h0.trans h1.symm)
  · rw [dif_pos h0, dif_neg h1] at h; cases h
  · rw [dif_neg h0, dif_pos h1] at h; cases h
  · rw [dif_neg h0, dif_neg h1] at h
    have := congrArg Fin.val (SemLoc.dma.inj h)
    exact Fin.ext (by simpa using this)

theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duties of a device's cells: one to a cell, and a second one to its barrier cell. -/
def tokOf (cj : Dev nD × Option (Fin 25)) : GSem nD τ sig × ℕ × Bool :=
  match cj.2 with
  | none => (barCell cj.1, 0, true)
  | some k => (kcell (cj.1, k), 0, false)

theorem tokOf_injective : Function.Injective tokOf := by
  rintro ⟨c, _ | k⟩ ⟨c', _ | k'⟩ h
  · have h1 : c = c' := congrArg (fun x : GSem nD τ sig × ℕ × Bool => x.1.1.1) h
    rw [h1]
  · exact absurd (congrArg (fun x : GSem nD τ sig × ℕ × Bool => x.2.2) h) (by simp [tokOf])
  · exact absurd (congrArg (fun x : GSem nD τ sig × ℕ × Bool => x.2.2) h) (by simp [tokOf])
  · have h1 := kcell_injective (congrArg (fun x : GSem nD τ sig × ℕ × Bool => x.1) h)
    cases h1; rfl

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- A device's cells one by one. -/
theorem cells25 (Φ : GSem nD τ sig → sProp 𝕄) (c : Dev nD) :
    (bigSep Finset.univ fun k : Fin 25 => Φ (kcell (c, k)))
      = iprop(Φ (barCell c) ∗ Φ (dcell c 5) ∗ Φ (dcell c 6) ∗ Φ (dcell c 7) ∗ Φ (dcell c 8) ∗ Φ (dcell c 9) ∗ Φ (dcell c 10) ∗ Φ (dcell c 11) ∗ Φ (dcell c 12) ∗ Φ (dcell c 13) ∗ Φ (dcell c 14) ∗ Φ (dcell c 15) ∗ Φ (dcell c 16) ∗ Φ (dcell c 17) ∗ Φ (dcell c 18) ∗ Φ (dcell c 19) ∗ Φ (dcell c 20) ∗ Φ (dcell c 21) ∗ Φ (dcell c 22) ∗ Φ (dcell c 23) ∗ Φ (dcell c 24) ∗ Φ (dcell c 25) ∗ Φ (dcell c 26) ∗ Φ (dcell c 27) ∗ Φ (dcell c 28)) :=
  (bigSep_univ_eq_bigSepL [0, 1, 2, 3, 4, 5, 6, 7, 8, 9, 10, 11, 12, 13, 14, 15, 16, 17, 18, 19, 20, 21, 22, 23, 24] (by decide) (by decide) _).trans rfl

/-- The tokens of a device's own cells. -/
def toks (c : Dev nD) : sProp 𝕄 :=
  iprop(dutyTok ER (barCell c) 0 true ∗ dutyTok ER (barCell c) 0 false ∗ tokS c ∗ tokR c ∗ tokL c)

theorem toks_intro (c : Dev nD) : (bigSep Finset.univ fun j : Option (Fin 25) => (dutyTok ER (tokOf (c, j)).1 (tokOf (c, j)).2.1 (tokOf (c, j)).2.2 : sProp 𝕄)) ⊢ toks c := by
  have h : (bigSep Finset.univ fun j : Option (Fin 25) => (dutyTok ER (tokOf (c, j)).1 (tokOf (c, j)).2.1 (tokOf (c, j)).2.2 : sProp 𝕄))
      = iprop(dutyTok ER (barCell c) 0 true ∗ dutyTok ER (barCell c) 0 false ∗ dutyTok ER (dcell c 5) 0 false ∗ dutyTok ER (dcell c 6) 0 false ∗ dutyTok ER (dcell c 7) 0 false ∗ dutyTok ER (dcell c 8) 0 false ∗ dutyTok ER (dcell c 9) 0 false ∗ dutyTok ER (dcell c 10) 0 false ∗ dutyTok ER (dcell c 17) 0 false ∗ dutyTok ER (dcell c 18) 0 false ∗ dutyTok ER (dcell c 19) 0 false ∗ dutyTok ER (dcell c 20) 0 false ∗ dutyTok ER (dcell c 21) 0 false ∗ dutyTok ER (dcell c 22) 0 false ∗ dutyTok ER (dcell c 11) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 23) 0 false ∗ dutyTok ER (dcell c 24) 0 false ∗ dutyTok ER (dcell c 25) 0 false ∗ dutyTok ER (dcell c 26) 0 false ∗ dutyTok ER (dcell c 27) 0 false ∗ dutyTok ER (dcell c 28) 0 false) :=
    (bigSep_univ_eq_bigSepL [none, some 0, some 1, some 2, some 3, some 4, some 5, some 6, some 13, some 14, some 15, some 16, some 17, some 18, some 7, some 8, some 9, some 10, some 11, some 12, some 19, some 20, some 21, some 22, some 23, some 24] (by decide) (by decide) _).trans rfl
  rw [h]
  unfold toks tokS tokR tokL
  iintro ⟨HT, HF, H5, H6, H7, H8, H9, H10, H17, H18, H19, H20, H21, H22, H11, H12, H13, H14, H15, H16, H23, H24, H25, H26, H27, H28⟩
  isplitl [HT]; · iexact HT
  isplitl [HF]; · iexact HF
  isplitl [H5 H6 H7 H8 H9 H10 H17 H18 H19 H20 H21 H22]
  · skip
    isplitl [H5]; · iexact H5
    isplitl [H6]; · iexact H6
    isplitl [H7]; · iexact H7
    isplitl [H8]; · iexact H8
    isplitl [H9]; · iexact H9
    isplitl [H10]; · iexact H10
    isplitl [H17]; · iexact H17
    isplitl [H18]; · iexact H18
    isplitl [H19]; · iexact H19
    isplitl [H20]; · iexact H20
    isplitl [H21]; · iexact H21
    iexact H22
  isplitl [H11 H12 H13 H14 H15 H16]
  · skip
    isplitl [H11]; · iexact H11
    isplitl [H12]; · iexact H12
    isplitl [H13]; · iexact H13
    isplitl [H14]; · iexact H14
    isplitl [H15]; · iexact H15
    iexact H16
  isplitl [H23]; · iexact H23
  isplitl [H24]; · iexact H24
  isplitl [H25]; · iexact H25
  isplitl [H26]; · iexact H26
  isplitl [H27]; · iexact H27
  iexact H28

/-- What the launch deals a device. -/
def G (c : Dev nD) : sProp 𝕄 :=
  iprop((bigSep Finset.univ fun k : Fin 25 => roundState ER (Rd (inp m)) (kcell (c, k)) 0)
    ∗ (bigSep Finset.univ fun k : Fin 25 => atPos ER (kcell (c, k)) 0 ∅ 0) ∗ (bigSep Finset.univ fun k : Fin 25 => reached ER (kcell (c, k)) 0) ∗ toks c)

/-- And what it starts from, every cell under the schedule. -/
def G' (c : Dev nD) : sProp 𝕄 :=
  iprop(∃ K : Dev nD × Fin 25 → ℕ, ((bigSep Finset.univ fun ck => cellInv ER (Rd (inp m)) (K ck) (kcell ck)) ∗ (bigSep Finset.univ fun ck => reached ER (kcell ck) 0)) ∗ ghost c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (Rd (inp m)) ringCells ringToks) $$ HX with ⟨Hst, Hr, Hat, Htok⟩
  imodintro
  ihave Hst := (Entails.of_eq (hX fun g => roundState ER (Rd (inp m)) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat]; · iexact Hat
  isplitl [Hr]; · iexact Hr
  iexact Htok

theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11, 12, 13, 14, 15, 16, 17, 18, 19, 20, 21, 22, 23] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, cells25 (fun g => semVal g 0) c]
  unfold zeros
  iintro ⟨HZ, HB⟩
  isplitl [HB]; · iexact HB
  iexact HZ

/-- One device's cells put under the schedule. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inp m)) κ (kcell (c, k))))
          ∗ (bigSep Finset.univ fun k : Fin 25 => atPos ER (kcell (c, k)) 0 ∅ 0) ∗ (bigSep Finset.univ fun k : Fin 25 => reached ER (kcell (c, k)) 0) ∗ toks c) := by
  unfold G
  iintro ⟨Hos, Hus, Hst, Hat, Hr, Htok⟩
  ihave Hv := (sems0 (F := F) c) $$ [Hos Hus]
  · isplitl [Hos]; · iexact Hos
    iexact Hus
  have ha : iprop((bigSep Finset.univ fun k : Fin 25 => semVal (kcell (c, k)) 0) ∗ bigSep Finset.univ fun k : Fin 25 => roundState ER (Rd (inp m)) (kcell (c, k)) 0)
      ⊢ (|={Set.univ}=> bigSep Finset.univ fun k => iprop(∃ κ : ℕ, cellInv ER (Rd (inp m)) κ (kcell (c, k))) : sProp 𝕄) := by
    rw [← bigSep_sep']
    exact (bigSep_mono fun k _ => (Rounds.body_intro ER (Rd (inp m)) (kcell (c, k))).trans inv_alloc).trans (bigSep_fupd _ _)
  imod ha $$ [Hv Hst] with Hinv
  · isplitl [Hv]; · iexact Hv
    iexact Hst
  imodintro
  isplitl [Hinv]; · iexact Hinv
  isplitl [Hat]; · iexact Hat
  isplitl [Hr]; · iexact Hr
  iexact Htok

/-- The tokens a device pays with: its neighbours' and its own send cells'. -/
def payToks (c : Dev nD) : sProp 𝕄 :=
  iprop(dutyTok ER (barCell (prv c)) 0 true ∗ dutyTok ER (barCell (nxt c)) 0 false ∗ tokS c ∗ tokR (nxt c) ∗ tokL (prv c))

theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (tokR c : sProp 𝕄)),
    bigSep_univ_equiv ring.symm (fun c : Dev nD => (tokL c : sProp 𝕄))]
  exact .rfl

theorem each_with {J : Type} [DecidableEq J] {T : Finset J} {P : sProp 𝕄} [BI.Persistent P] {Φ Ψ : J → sProp 𝕄}
    (h : ∀ i ∈ T, iprop(P ∗ Φ i) ⊢ Ψ i) : iprop(P ∗ bigSep T Φ) ⊢ bigSep T Ψ :=
  (sep_mono_left (BI.bigSep_of_persistent T P)).trans (by rw [← bigSep_sep']; exact bigSep_mono h)

/-- The cells' records under one naming. -/
def cellRecs (K : Dev nD × Fin 25 → ℕ) : sProp 𝕄 :=
  iprop((bigSep Finset.univ fun ck => cellInv ER (Rd (inp m)) (K ck) (kcell ck)) ∗ (bigSep Finset.univ fun ck => reached ER (kcell ck) 0))

instance cellRecs_persistent (K : Dev nD × Fin 25 → ℕ) : BI.Persistent (cellRecs m K) := by unfold cellRecs; infer_instance

theorem start_of (K : Dev nD × Fin 25 → ℕ) (c : Dev nD) :
    iprop(cellRecs m K ∗ ((bigSep Finset.univ fun k : Fin 25 => atPos ER (kcell (c, k)) 0 ∅ 0) ∗ payToks c)) ⊢ G' m c := by
  rw [cells25 (fun g => atPos ER g 0 ∅ 0) c]
  unfold G' cellRecs ghost payToks posA
  iintro ⟨HK, Hat, HP, HN, HS, HR, HL⟩
  iexists K
  isplitl [HK]; · iexact HK
  isplitl [HP]; · iexact HP
  isplitl [HN]; · iexact HN
  isplitl [HS]; · iexact HS
  isplitl [HR]; · iexact HR
  isplitl [HL]; · iexact HL
  iexact Hat

theorem regroup :
    (bigSep Finset.univ fun c : Dev nD => iprop((bigSep Finset.univ fun k => iprop(∃ κ : ℕ, cellInv ER (Rd (inp m)) κ (kcell (c, k))))
          ∗ (bigSep Finset.univ fun k : Fin 25 => atPos ER (kcell (c, k)) 0 ∅ 0) ∗ (bigSep Finset.univ fun k : Fin 25 => reached ER (kcell (c, k)) 0) ∗ toks c) : sProp 𝕄)
      ⊢ bigSep Finset.univ (G' m) := by
  rw [bigSep_sep', bigSep_sep', bigSep_sep', ← bigSep_univ_prod (fun ck : Dev nD × Fin 25 => iprop(∃ κ : ℕ, cellInv ER (Rd (inp m)) κ (kcell ck))),
    ← bigSep_univ_prod (fun ck : Dev nD × Fin 25 => (reached ER (kcell ck) 0 : sProp 𝕄))]
  iintro ⟨HI, Hat, HR, Htok⟩
  ihave HK := (BI.bigSep_exists_pi Finset.univ (fun (ck : Dev nD × Fin 25) (κ : ℕ) => (cellInv ER (Rd (inp m)) κ (kcell ck) : sProp 𝕄))) $$ HI
  icases HK with ⟨%K, HI⟩
  ihave Htk := (toks_around (F := F)) $$ Htok
  iapply (each_with (P := cellRecs m K) fun c _ => start_of m K c)
  isplitl [HI HR]
  · unfold cellRecs; isplitl [HI]; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

end Cert.Ring
-- ==== Proof.Run.lean ====
/-
# The run

What each device is owed at its cells at launch, what the pipeline asks for before and after the grid point, and the
run of the whole program: it ends, its arrays are the pipeline's, and every counter is zero.
-/
module

public import proofs.«01_k».proof.Proof.Deal
public import Idealize.ShloMosaic.Lib.Quiescent
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit of the waits -/

theorem dcell_inj {c c' : Dev nD} {q q' : DmaSem sig} (h : dcell c q = dcell c' q') : c = c' ∧ q = q' :=
  ⟨congrArg (fun g : GSem nD τ sig => g.1.1) h, SemLoc.dma.inj (congrArg Prod.snd h)⟩

theorem OwL_zero {d c : Dev nD} {q : DmaSem sig} : ∀ {ps : List (Bool × DmaSem sig)}, (∀ p ∈ ps, p.2 ≠ q) → OwL d ps (dcell c q) () = 0
  | [], _ => rfl
  | p :: ps, h => by
    unfold OwL
    rw [Pi.add_apply, Finsupp.add_apply, OwL_zero fun p' hp => h p' (List.mem_cons_of_mem _ hp), tallyAt_apply,
      if_neg fun h' => h p List.mem_cons_self (dcell_inj h'.1).2.symm]

theorem OwL_at {d c : Dev nD} {b : Bool} {q : DmaSem sig} : ∀ {ps : List (Bool × DmaSem sig)}, (ps.map Prod.snd).Nodup → (b, q) ∈ ps →
    OwL d ps (dcell c q) () = if tgt b d = c then amtD q.val else 0
  | [], _, h => absurd h List.not_mem_nil
  | p :: ps, hn, h => by
    rw [List.map_cons, List.nodup_cons] at hn
    unfold OwL
    rw [Pi.add_apply, Finsupp.add_apply, tallyAt_apply]
    rcases List.mem_cons.mp h with rfl | h'
    · rw [OwL_zero fun p' hp e => hn.1 (List.mem_map.mpr ⟨p', hp, e⟩), Nat.zero_add]
      by_cases hc : tgt b d = c
      · subst hc; rw [if_pos ⟨rfl, rfl⟩, if_pos rfl]
      · rw [if_neg fun e => hc (dcell_inj e.1).1.symm, if_neg hc]
    · rw [OwL_at hn.2 h', if_neg (c := dcell c q = dcell (tgt p.1 d) p.2 ∧ () = ()) fun e => hn.1 (by rw [← (dcell_inj e.1).2]; exact List.mem_map_of_mem (f := Prod.snd) h'), Nat.add_zero]

theorem OwL_bar {d c : Dev nD} {ps : List (Bool × DmaSem sig)} : OwL d ps (barCell c) () = 0 := by
  by_contra h
  obtain ⟨p, _, e⟩ := OwL_pos (Nat.pos_of_ne_zero h)
  have := congrArg Prod.snd e
  cases this

theorem bar_inj {c c' : Dev nD} (h : barCell c = barCell c') : c = c' := congrArg (fun g : GSem nD τ sig => g.1.1) h

theorem owed_bar (d c : Dev nD) : O₀ d (barCell c) () = (if d = prv c then 1 else 0) + (if d = nxt c then 1 else 0) := by
  unfold O₀
  rw [Pi.add_apply, Finsupp.add_apply, Pi.add_apply, Finsupp.add_apply, OwL_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_inj h1, prv_nxt])), if_neg h]
  · by_cases h : d = nxt c
    · subst h; rw [prv_nxt, if_pos ⟨rfl, rfl⟩, if_pos rfl]
    · rw [if_neg (fun ⟨h1, _⟩ => h (by rw [bar_inj h1, nxt_prv])), if_neg h]

theorem tgt_iff (b : Bool) (d c : Dev nD) : tgt b d = c ↔ d = tgt (!b) c := by
  cases b
  · show prv d = c ↔ d = nxt c
    exact ⟨fun h => by rw [← h, nxt_prv], fun h => by rw [h, prv_nxt]⟩
  · show nxt d = c ↔ d = prv c
    exact ⟨fun h => by rw [← h, prv_nxt], fun h => by rw [h, nxt_prv]⟩

theorem owed_recv (b : Bool) (q : DmaSem sig) (h : (b, q) ∈ sends) (d c : Dev nD) :
    O₀ d (dcell c q) () = if d = tgt (!b) c then amtD q.val else 0 := by
  unfold O₀
  rw [Pi.add_apply, Finsupp.add_apply, Pi.add_apply, Finsupp.add_apply, OwL_at (by decide) h,
    tallyAt_ne_cell (fun e => by have := congrArg Prod.snd e; cases this), tallyAt_ne_cell (fun e => by have := congrArg Prod.snd e; cases this),
    Finsupp.zero_apply, Nat.add_zero, Nat.add_zero]
  exact if_congr (tgt_iff b d c) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (b : Bool) (q : DmaSem sig) (h : (b, q) ∈ sends) :
    tallyOn (dcell c q) (launchCredit (Pipeline.owing O₀) 0 (dcell c q)) = (tallyAt (dcell c q) () (amtD q.val) : CellTallies nD τ sig Unit) := by
  unfold tallyAt; refine congrArg _ (Finsupp.ext fun u => ?_); cases u
  rw [Pipeline.launchCredit_owing, Finsupp.single_eq_same, Finset.sum_congr rfl fun d _ => owed_recv b q h d c,
    Finset.sum_ite_eq' Finset.univ (tgt (!b) c) fun _ => amtD q.val, if_pos (Finset.mem_univ _)]

/-- The cells a device waits on that another pays. -/
def waited : Finset (SemLoc sig) := [SemLoc.reg barS, SemLoc.dma 11, SemLoc.dma 12, SemLoc.dma 13, SemLoc.dma 14, SemLoc.dma 15, SemLoc.dma 16, SemLoc.dma 23, SemLoc.dma 24, SemLoc.dma 25, SemLoc.dma 26, SemLoc.dma 27, SemLoc.dma 28].toFinset

theorem creds (c : Dev nD) : (Pipeline.launchCred O₀ c : sProp 𝕄) ⊢ credA c := by
  unfold Pipeline.launchCred
  refine (BI.bigSep_subset (Finset.subset_univ waited)).trans ?_
  refine (Entails.of_eq (bigSep_eq_bigSepL_of_eq [SemLoc.reg barS, SemLoc.dma 11, SemLoc.dma 12, SemLoc.dma 13, SemLoc.dma 14, SemLoc.dma 15, SemLoc.dma 16, SemLoc.dma 23, SemLoc.dma 24, SemLoc.dma 25, SemLoc.dma 26, SemLoc.dma 27, SemLoc.dma 28] (by decide) (by decide) _)).trans ?_
  unfold credA
  exact BI.sep_mono (Entails.of_eq (congrArg cred (launch_bar c))) (BI.sep_mono (Entails.of_eq (congrArg cred (launch_recv c true 11 (by decide)))) (BI.sep_mono (Entails.of_eq (congrArg cred (launch_recv c true 12 (by decide)))) (BI.sep_mono (Entails.of_eq (congrArg cred (launch_recv c true 13 (by decide)))) (BI.sep_mono (Entails.of_eq (congrArg cred (launch_recv c true 14 (by decide)))) (BI.sep_mono (Entails.of_eq (congrArg cred (launch_recv c true 15 (by decide)))) (BI.sep_mono (Entails.of_eq (congrArg cred (launch_recv c true 16 (by decide)))) (BI.sep_mono (Entails.of_eq (congrArg cred (launch_recv c false 23 (by decide)))) (BI.sep_mono (Entails.of_eq (congrArg cred (launch_recv c false 24 (by decide)))) (BI.sep_mono (Entails.of_eq (congrArg cred (launch_recv c false 25 (by decide)))) (BI.sep_mono (Entails.of_eq (congrArg cred (launch_recv c false 26 (by decide)))) (BI.sep_mono (Entails.of_eq (congrArg cred (launch_recv c false 27 (by decide)))) (Entails.of_eq (congrArg cred (launch_recv c false 28 (by decide)))))))))))))))

/-! ## Before and after the grid point -/

def start (c : Dev nD) : sProp 𝕄 := iprop((∃ K, Recs (inp m) K ∗ ghost c) ∗ credA c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold start G' Recs
  icases HG with ⟨%K, HR, Hg⟩
  icases HR with ⟨HI, Hr⟩
  imodintro
  isplitl
  · isplitl [HI Hr Hg Hlev]
    · iexists K
      isplitl [HI Hr Hlev]
      · isplitl [HI]; · iexact HI
        isplitl [Hr]; · iexact Hr
        iexact Hlev
      · iexact Hg
    · iexact Hc
  · iempintro

theorem ownE_whole_in (c : Dev nD) (b : Ref sig .tc) :
    iprop(∃ f : Buf (Elt F) ((c : Thread nD τ).loc b), ((c : Thread nD τ).loc b) ↦{fullShare} f) ⊢ (OwnE c (Memref.whole b) : sProp 𝕄) := by
  iintro ⟨%f, H⟩
  iexists f
  iapply (own_of (F := F) c (Memref.whole b) f f rfl)
  rw [show (Memref.whole b).view.set = Finset.univ from View.set_whole b]
  iexact H

theorem ownE_whole_out (c : Dev nD) (b : Ref sig .tc) :
    (OwnE c (Memref.whole b) : sProp 𝕄) ⊢ iprop(∃ f : Buf (Elt F) ((c : Thread nD τ).loc b), ((c : Thread nD τ).loc b) ↦{fullShare} f) := by
  iintro ⟨%X, H⟩
  ihave H := (own_elim (F := F) c (Memref.whole b) X) $$ H
  icases H with ⟨%f, -, H⟩
  rw [show (Memref.whole b).view.set = Finset.univ from View.set_whole b]
  iexists f; iexact H

theorem scratch_in (c : Dev nD) : (Pipeline.scopedRest cfg0.spec c : sProp 𝕄) ⊢ scratch c := by
  rw [scopedRest0_eq]; unfold scratch
  exact BI.sep_mono (ownE_whole_in c cc0_scratch0) (BI.sep_mono (ownE_whole_in c cc0_scratch1) (BI.sep_mono (ownE_whole_in c cc0_scratch2) (BI.sep_mono (ownE_whole_in c cc0_scratch3) (BI.sep_mono (ownE_whole_in c cc0_scratch4) (BI.sep_mono (ownE_whole_in c cc0_scratch5) (BI.sep_mono (ownE_whole_in c cc0_scratch6) (BI.sep_mono (ownE_whole_in c cc0_scratch7) (BI.sep_mono (ownE_whole_in c cc0_scratch8) (ownE_whole_in c cc0_scratch9)))))))))

theorem scratch_out (c : Dev nD) : (scratch c : sProp 𝕄) ⊢ Pipeline.scopedRest cfg0.spec c := by
  rw [scopedRest0_eq]; unfold scratch
  exact BI.sep_mono (ownE_whole_out c cc0_scratch0) (BI.sep_mono (ownE_whole_out c cc0_scratch1) (BI.sep_mono (ownE_whole_out c cc0_scratch2) (BI.sep_mono (ownE_whole_out c cc0_scratch3) (BI.sep_mono (ownE_whole_out c cc0_scratch4) (BI.sep_mono (ownE_whole_out c cc0_scratch5) (BI.sep_mono (ownE_whole_out c cc0_scratch6) (BI.sep_mono (ownE_whole_out c cc0_scratch7) (BI.sep_mono (ownE_whole_out c cc0_scratch8) (ownE_whole_out c cc0_scratch9)))))))))

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨⟨Hs, Hc⟩, -, Hr⟩
  ihave Hr := (scratch_in (F := F) c) $$ Hr
  isplitl [Hs]; · iexact Hs
  isplitl [Hc]; · iexact Hc
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, Hz, Hb⟩
  ihave Hr := (scratch_out (F := F) c) $$ Hr
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array holds at the end. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ (c : Dev nD) (w : Fin cfg0.W), r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end at -/

theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

theorem blk_4 (c : Dev nD) (f : Buf (Elt F) ((c : Thread nD τ).loc main_v1)) : (win0_4.blk t0_0).view.read (Elt F) f = f := by
  have hz : (fun a => (win0_4.index t0_0) a * main_v1.ty.shape.size a) = fun _ => 0 := funext fun a => by fin_cases a <;> decide
  exact Memref.read_access_unit_zero (Elt F) main_v1 hz (fun a => by fin_cases a <;> decide) f

theorem finalA_4 (c : Dev nD) : finalA m ρ c (4 : Fin 5) = outAt (inp m) c := by
  unfold finalA
  rw [← blk_4 (F := F) c ((dats m ρ 0 c).arrAt (4 : Fin 5) cfg0.N)]
  rw [show cfg0.N = (t0_0).val + 1 from rfl, (dats m ρ 0 c).arrAt_succ (4 : Fin 5) t0_0]
  rw [show (cfg0.win (4 : Fin 5)).flush t0_0 = true from flush0_4 t0_0, if_pos rfl]
  exact View.read_write_univ _ _

end Cert.Ring
-- ==== Proof.Same.lean ====
/-
# The two programs are one text

No operation of the kernel was rewritten, so the kernel as printed and its idealized form are one program under two
names. Piece by piece they are equal by unfolding; the table of bodies is compared label by label, since each
program's table is its own case analysis. A statement about the run of one is then a statement about the run of the
other.
-/
module

public import proofs.«01_k».proof.Proof.Gen.Kernel
public import proofs.«01_k».proof.Proof.Gen.KernelIdeal

@[expose] public section

noncomputable section

namespace Cert.Same

open Idealize.ShloMosaic

variable {F : FTy → Type} [FloatOps F]

theorem sig_same : Cert.Kernel.sig = Cert.KernelIdeal.sig := rfl
theorem part1 : Cert.Kernel.k0_part1 (F := F) = Cert.KernelIdeal.k0_part1 (F := F) := rfl
theorem part2 : Cert.Kernel.k0_part2 (F := F) = Cert.KernelIdeal.k0_part2 (F := F) := rfl
theorem part3 : Cert.Kernel.k0_part3 (F := F) = Cert.KernelIdeal.k0_part3 (F := F) := rfl
theorem part4 : Cert.Kernel.k0_part4 (F := F) = Cert.KernelIdeal.k0_part4 (F := F) := rfl
theorem part5 : Cert.Kernel.k0_part5 (F := F) = Cert.KernelIdeal.k0_part5 (F := F) := rfl
theorem part6 : Cert.Kernel.k0_part6 (F := F) = Cert.KernelIdeal.k0_part6 (F := F) := rfl
theorem part7 : Cert.Kernel.k0_part7 (F := F) = Cert.KernelIdeal.k0_part7 (F := F) := rfl
theorem part8 : Cert.Kernel.k0_part8 (F := F) = Cert.KernelIdeal.k0_part8 (F := F) := rfl
theorem part9 : Cert.Kernel.k0_part9 (F := F) = Cert.KernelIdeal.k0_part9 (F := F) := rfl
theorem part10 : Cert.Kernel.k0_part10 (F := F) = Cert.KernelIdeal.k0_part10 (F := F) := rfl
theorem part11 : Cert.Kernel.k0_part11 (F := F) = Cert.KernelIdeal.k0_part11 (F := F) := rfl
theorem part12 : Cert.Kernel.k0_part12 (F := F) = Cert.KernelIdeal.k0_part12 (F := F) := rfl
theorem part13 : Cert.Kernel.k0_part13 (F := F) = Cert.KernelIdeal.k0_part13 (F := F) := rfl
theorem part14 : Cert.Kernel.k0_part14 (F := F) = Cert.KernelIdeal.k0_part14 (F := F) := rfl
theorem part15 : Cert.Kernel.k0_part15 (F := F) = Cert.KernelIdeal.k0_part15 (F := F) := rfl
theorem part16 : Cert.Kernel.k0_part16 (F := F) = Cert.KernelIdeal.k0_part16 (F := F) := rfl
theorem part17 : Cert.Kernel.k0_part17 (F := F) = Cert.KernelIdeal.k0_part17 (F := F) := rfl
theorem part18 : Cert.Kernel.k0_part18 (F := F) = Cert.KernelIdeal.k0_part18 (F := F) := rfl
theorem part19 : Cert.Kernel.k0_part19 (F := F) = Cert.KernelIdeal.k0_part19 (F := F) := rfl
theorem part20 : Cert.Kernel.k0_part20 (F := F) = Cert.KernelIdeal.k0_part20 (F := F) := rfl
theorem part21 : Cert.Kernel.k0_part21 (F := F) = Cert.KernelIdeal.k0_part21 (F := F) := rfl
theorem part22 : Cert.Kernel.k0_part22 (F := F) = Cert.KernelIdeal.k0_part22 (F := F) := rfl
theorem part23 : Cert.Kernel.k0_part23 (F := F) = Cert.KernelIdeal.k0_part23 (F := F) := rfl
theorem part24 : Cert.Kernel.k0_part24 (F := F) = Cert.KernelIdeal.k0_part24 (F := F) := rfl

theorem body_same : Cert.Kernel.cc0_body (F := F) = Cert.KernelIdeal.cc0_body (F := F) := rfl

/-- The tables agree at the one label there is. -/
theorem table_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem pcfgs_same : Cert.Kernel.pcfgs (F := F) = Cert.KernelIdeal.pcfgs (F := F) := rfl
theorem main_same : Cert.Kernel.main (F := F) = Cert.KernelIdeal.main (F := F) := rfl

theorem defs_same : Cert.Kernel.defs (F := F) = Cert.KernelIdeal.defs (F := F) := by
  unfold Cert.Kernel.defs Cert.KernelIdeal.defs
  exact congrArg (Pipeline.defs (Cert.KernelIdeal.pcfgs (F := F))) table_same

end Cert.Same
-- ==== Proof.Frames.lean ====
/-
# The runs

The run of the kernel over any float values, with its result named: the arguments end as they were, and every counter
reads zero. Over the ideal values it is the idealized kernel's frame; the kernel as printed is the same text, so over
the machine's own values it is the kernel's.
-/
module

public import proofs.«01_k».proof.Proof.Run
public import proofs.«01_k».proof.Proof.Same
public import proofs.«01_k».proof.Defs

@[expose] public section

noncomputable section

namespace Cert.Ring

open Cert.KernelIdeal Cert.KernelIdeal.Gen

open Idealize.ShloMosaic
open Idealize.ShloMosaic.TcCoe
open Idealize.SL.Sem

variable {F : FTy → Type} [FloatOps F]

theorem run_named (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v1) = outAt (inp m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c =>
      ⟨(h.1 c (4 : Fin 5)).trans (finalA_4 m ρ c), (h.1 c (0 : Fin 5)).trans (finalA_0 m ρ c), (h.1 c (1 : Fin 5)).trans (finalA_1 m ρ c),
        (h.1 c (2 : Fin 5)).trans (finalA_2 m ρ c), (h.1 c (3 : Fin 5)).trans (finalA_3 m ρ c)⟩, h.2⟩) (run_main m ρ)

/-- The same run with the result left out, over any float values. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => (h.1 c).2, h.2⟩) (run_named m ρ)

theorem frame_kernelIdeal : Cert.quiescent_KernelIdeal := fun m ρ _ => run_frame (F := Ideal) m ρ

/-- The kernel as printed: its table of bodies is the idealized kernel's, and so is its entry. -/
theorem frame_kernel : Cert.quiescent_Kernel := fun m ρ _ => by
  have h := run_frame (F := Bits) m ρ
  rw [← Cert.Same.defs_same, ← Cert.Same.main_same] at h
  exact h

end Cert.Ring
-- ==== Proof.Algebra.lean ====
/-
# The two results are one function of the whole arrays

Device `d` holds columns `1024·d …` of the left operand and the same rows of the right one, so its part of an entry is
the stretch `1024·d …` of the reference's sum; the four parts added are that sum. Both sides then scale and apply the
same final function.
-/
module

public import proofs.«01_k».proof.Proof.RefValue
public import proofs.«01_k».proof.Proof.Frames
public import Idealize.ShloMosaic.Lib.Pipeline.ValueKit.Acc
public import Idealize.ShloMosaic.Lib.Layout

@[expose] public section

noncomputable section

namespace Cert.Ring

open Cert.KernelIdeal Cert.KernelIdeal.Gen

open Idealize.ShloMosaic
open Idealize.ShloMosaic.TcCoe
open Idealize.ShloMosaic.ValueIdx (ix2)
open Idealize.SL.Sem

/-! ## What each device's body finds -/

section Found
variable {F : FTy → Type} [FloatOps F] (m : (ℓ : Loc nD τ sig) → Buf (Elt F) ℓ) (c : Dev nD)

theorem inp_x : (inp m).x c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
theorem inp_w : (inp m).w c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _
theorem inp_sx : (inp m).sx c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _
theorem inp_sw : (inp m).sw c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _

end Found

/-! ## The cut of the operands, and the sum put together -/

/-- Entry `k` of device `d`'s stretch of the 4096 summed over. -/
def stretch (d : Dev nD) (k : Fin 1024) : Fin 4096 := ⟨d.val * 1024 + k.val, by have h1 : d.val < 4 := d.isLt; have := k.isLt; omega⟩

theorem cols_block (v : (⟨2, ![4096, 4096]⟩ : Shape).Idx → Elt Ideal .fp8e4m3) (d : Dev nD) (R : Fin 4096) (k : Fin 1024) :
    (Layout.block ⟨2, ![4096, 1024]⟩ ⟨2, ![4096, 4096]⟩ 1 4 d v) (ix2 R k) = v (ix2 R (stretch d k)) :=
  congrArg v (funext fun a => Fin.ext (match a with | ⟨0, _⟩ => rfl | ⟨1, _⟩ => rfl))

theorem rows_block (v : (⟨2, ![4096, 2048]⟩ : Shape).Idx → Elt Ideal .fp8e4m3) (d : Dev nD) (k : Fin 1024) (Q : Fin 2048) :
    (Layout.block ⟨2, ![1024, 2048]⟩ ⟨2, ![4096, 2048]⟩ 0 4 d v) (ix2 k Q) = v (ix2 (stretch d k) Q) :=
  congrArg v (funext fun a => Fin.ext (match a with | ⟨0, _⟩ => rfl | ⟨1, _⟩ => rfl))

theorem result_block (v : (⟨2, ![4096, 2048]⟩ : Shape).Idx → Elt Ideal .f32) (c : Dev nD) (r : Fin 1024) (j : Fin 2048) :
    (Layout.block ⟨2, ![1024, 2048]⟩ ⟨2, ![4096, 2048]⟩ 0 4 c v) (ix2 r j) = v (ix2 (wholeRow c r) j) :=
  congrArg v (funext fun a => Fin.ext (match a with
    | ⟨0, _⟩ => by show c.val * 1024 + r.val = 1024 * c.val + r.val; omega
    | ⟨1, _⟩ => rfl))

theorem parts_sum (f : Fin 4096 → EReal) : ∑ d : Dev nD, ∑ k : Fin 1024, f (stretch d k) = ∑ K : Fin 4096, f K :=
  Fin.sum_mul_add_fin (L := 4096) 4 1024 f

section Same
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's argument `b`, on the one device it runs on. -/
abbrev whole (b : Ref Cert.ReferenceIdeal.sig .tc) := m' (((0 : Dev Cert.ReferenceIdeal.nD).tc : Thread Cert.ReferenceIdeal.nD Cert.ReferenceIdeal.τ).loc b)

/-- An entry of the reference's left operand, and of its right one. -/
def lhs (R K : Fin 4096) : EReal := (whole m' Cert.ReferenceIdeal.main_arg0 : (⟨2, ![4096, 4096]⟩ : Shape).Idx → Elt Ideal .fp8e4m3) (ix2 R K)
def rhs (K : Fin 4096) (Q : Fin 2048) : EReal := (whole m' Cert.ReferenceIdeal.main_arg1 : (⟨2, ![4096, 2048]⟩ : Shape).Idx → Elt Ideal .fp8e4m3) (ix2 K Q)

theorem same_result
    (hx : ∀ c : Dev nD, m ((c : Thread nD τ).loc main_arg0) = Layout.block ⟨2, ![4096, 1024]⟩ ⟨2, ![4096, 4096]⟩ 1 4 c (whole m' Cert.ReferenceIdeal.main_arg0))
    (hw : ∀ c : Dev nD, m ((c : Thread nD τ).loc main_arg1) = Layout.block ⟨2, ![1024, 2048]⟩ ⟨2, ![4096, 2048]⟩ 0 4 c (whole m' Cert.ReferenceIdeal.main_arg1))
    (ha : ∀ c : Dev nD, m ((c : Thread nD τ).loc main_arg2) = whole m' Cert.ReferenceIdeal.main_arg2)
    (hb : ∀ c : Dev nD, m ((c : Thread nD τ).loc main_arg3) = whole m' Cert.ReferenceIdeal.main_arg3) (c : Dev nD) :
    outAt (inp m) c = Layout.block ⟨2, ![1024, 2048]⟩ ⟨2, ![4096, 2048]⟩ 0 4 c (Cert.Whole.result m' (0 : Dev Cert.ReferenceIdeal.nD)) := by
  refine funext fun i => ?_
  obtain ⟨r, j, rfl⟩ : ∃ (r : Fin 1024) (j : Fin 2048), i = ix2 r j :=
    ⟨i 0, i 1, funext fun a => match a with | ⟨0, _⟩ => rfl | ⟨1, _⟩ => rfl⟩
  rw [out_at]
  refine Eq.trans ?_ ((result_block _ c r j).trans (Cert.Whole.payload_at _ _ _ _ _ _)).symm
  have hp : ∀ d : Dev nD, part (inp m) d (wholeRow c r) j = ∑ k : Fin 1024, lhs m' (wholeRow c r) (stretch d k) * rhs m' (stretch d k) j := fun d => by
    unfold part
    rw [inp_x, inp_w, hx d, hw d]
    exact Finset.sum_congr rfl fun k _ => congrArg₂ (fun a b : EReal => a * b) (cols_block _ d _ k) (rows_block _ d k j)
  have hs : scl (inp m) c = Scalar.mulf (F := Ideal) ((whole m' Cert.ReferenceIdeal.main_arg2 : S1.Idx → Elt Ideal .f32) ix1)
      ((whole m' Cert.ReferenceIdeal.main_arg3 : S1.Idx → Elt Ideal .f32) ix1) := by
    unfold scl
    rw [inp_sx, inp_sw, ha c, hb c]
  rw [hs, Finset.sum_congr rfl fun d _ => hp d]
  exact congrArg (fun z : EReal => act (z * _ : EReal)) (parts_sum fun K => lhs m' (wholeRow c r) K * rhs m' K j)

end Same

theorem algebraic : Cert.algebraic_KernelIdeal_ReferenceIdeal := fun m g m' g' _ h =>
  ⟨Cert.Whole.result m' (0 : Dev Cert.ReferenceIdeal.nD),
    (θ_run Cert.KernelIdeal.defs _ _).mono (fun _ hr c =>
      ⟨(hr.1 c).1.trans (same_result m m' (fun d => (h d).1) (fun d => (h d).2.1) (fun d => (h d).2.2.1) (fun d => (h d).2.2.2) c), (hr.1 c).2⟩)
      (run_named (F := Ideal) m g),
    (θ_run Cert.ReferenceIdeal.defs _ _).mono (fun _ hr =>
      ⟨(hr 0).1.trans (Cert.Whole.result_is m' (0 : Dev Cert.ReferenceIdeal.nD)), (hr 0).2⟩)
      (Cert.ReferenceIdeal.Value.run_blocks (F := Ideal) m' g')⟩

end Cert.Ring
-- ==== Proof.lean ====
/-
# The certificate

Every device of the ring runs the kernel to its end with every counter back at zero, and over exact arithmetic each
device's block of the result is its block of the one-device reference's result.
-/
module

public import proofs.«01_k».proof.Defs
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_kernelIdeal, fun m g _ => Cert.ReferenceIdeal.Gen.frame m g, trivial, Cert.Ring.algebraic⟩

end Cert.Proof

end
